-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate_KernelIdeal [hPre_moderate_KernelIdeal : Cert.Pre_moderate_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_moderate_ClippedIdeal [hPre_moderate_ClippedIdeal : Cert.Pre_moderate_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_moderate_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).1 = (fun _ => 1#1)
    ∧ (Cert.Pre_moderate_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate_KernelIdeal [hKernelIdeal : Cert.KernelIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_moderate_ClippedIdeal [hClippedIdeal : Cert.ClippedIdeal.Facts] [hPre_moderate_ClippedIdeal : Cert.Pre_moderate_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_moderate_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_moderate_KernelIdeal [hKernelIdeal : Cert.KernelIdeal.Facts] [hClippedIdeal : Cert.ClippedIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_moderate_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v8) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_moderate_KernelIdeal : Cert.Pre_moderate_KernelIdeal.Facts) (hPre_moderate_ClippedIdeal : Cert.Pre_moderate_ClippedIdeal.Facts),
    quiescent_Kernel (hKernel := hKernel)
    ∧ quiescent_KernelIdeal (hKernelIdeal := hKernelIdeal)
    ∧ quiescent_KernelIdeal_pre_moderate_KernelIdeal (hKernelIdeal := hKernelIdeal) (hPre_moderate_KernelIdeal := hPre_moderate_KernelIdeal)
    ∧ quiescent_ReferenceIdeal (hReferenceIdeal := hReferenceIdeal)
    ∧ quiescent_ClippedIdeal (hClippedIdeal := hClippedIdeal)
    ∧ quiescent_ClippedIdeal_pre_moderate_ClippedIdeal (hClippedIdeal := hClippedIdeal) (hPre_moderate_ClippedIdeal := hPre_moderate_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_moderate_KernelIdeal (hKernelIdeal := hKernelIdeal) (hClippedIdeal := hClippedIdeal) (hPre_moderate_KernelIdeal := hPre_moderate_KernelIdeal)
-- ==== Pre_moderate_ClippedIdeal.lean ====
abbrev S1024x1024 : Shape := ⟨2, ![1024, 1024]⟩
abbrev S_ : Shape := ⟨0, ![]⟩
abbrev S1024 : Shape := ⟨1, ![1024]⟩

class Facts : Prop where
  bitsLt_bf16_f32 : FTy.bits .bf16 < FTy.bits .f32
  reducesTo_S1024x1024_S1024_d1 : S1024x1024.ReducesTo [1] S1024
  h_S_ : 0 < S_.numel
  bcast_S_S1024 : S_.BroadcastsInDim S1024 (![] : Fin 0 → Fin S1024.rank)
  reducesTo_S1024x1024_S1024_d0 : S1024x1024.ReducesTo [0] S1024

variable [Facts]

def fn {F : FTy → Type} [FloatOps F] (main_arg0 : FVec F S1024x1024 .bf16) (main_arg1 : FVec F S1024x1024 .bf16) : IVec S1024 1 × IVec S1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := mulf main_v0 main_v0
  let main_cst : FVec F S_ .f32 := constant S_ .f32 0x00000000#32
  let main_v3 : FVec F S1024 .f32 := (fun x v => Host.reduceAdd x v reducesTo_S1024x1024_S1024_d1 h_S_) main_v2 main_cst
  let main_cst_0 : FVec F S_ .f32 := constant S_ .f32 0x44E10000#32
  let main_v4 : FVec F S1024 .f32 := broadcastInDim S1024 ![] bcast_S_S1024 main_cst_0
  let main_v5 : IVec S1024 1 := cmpf .ole main_v3 main_v4
  let main_v6 : FVec F S1024x1024 .f32 := mulf main_v1 main_v1
  let main_cst_1 : FVec F S_ .f32 := constant S_ .f32 0x00000000#32
  let main_v7 : FVec F S1024 .f32 := (fun x v => Host.reduceAdd x v reducesTo_S1024x1024_S1024_d0 h_S_) main_v6 main_cst_1
  let main_cst_2 : FVec F S_ .f32 := constant S_ .f32 0x40000000#32
  let main_v8 : FVec F S1024 .f32 := broadcastInDim S1024 ![] bcast_S_S1024 main_cst_2
  let main_v9 : IVec S1024 1 := cmpf .ole main_v7 main_v8
  (main_v5, main_v9)
-- ==== Pre_moderate_KernelIdeal.lean ====
abbrev S256x1024 : Shape := ⟨2, ![256, 1024]⟩
abbrev S1024x256 : Shape := ⟨2, ![1024, 256]⟩
abbrev S_ : Shape := ⟨0, ![]⟩
abbrev S256 : Shape := ⟨1, ![256]⟩

class Facts : Prop where
  bitsLt_bf16_f32 : FTy.bits .bf16 < FTy.bits .f32
  reducesTo_S256x1024_S256_d1 : S256x1024.ReducesTo [1] S256
  h_S_ : 0 < S_.numel
  bcast_S_S256 : S_.BroadcastsInDim S256 (![] : Fin 0 → Fin S256.rank)
  reducesTo_S1024x256_S256_d0 : S1024x256.ReducesTo [0] S256

variable [Facts]

def fn {F : FTy → Type} [FloatOps F] (main_arg0 : FVec F S256x1024 .bf16) (main_arg1 : FVec F S1024x256 .bf16) : IVec S256 1 × IVec S256 1 :=
  let main_v0 : FVec F S256x1024 .f32 := (extf .f32 · bitsLt_bf16_f32) main_arg0
  let main_v1 : FVec F S1024x256 .f32 := (extf .f32 · bitsLt_bf16_f32) main_arg1
  let main_v2 : FVec F S256x1024 .f32 := mulf main_v0 main_v0
  let main_cst : FVec F S_ .f32 := constant S_ .f32 0x00000000#32
  let main_v3 : FVec F S256 .f32 := (fun x v => Host.reduceAdd x v reducesTo_S256x1024_S256_d1 h_S_) main_v2 main_cst
  let main_cst_0 : FVec F S_ .f32 := constant S_ .f32 0x44E10000#32
  let main_v4 : FVec F S256 .f32 := broadcastInDim S256 ![] bcast_S_S256 main_cst_0
  let main_v5 : IVec S256 1 := cmpf .ole main_v3 main_v4
  let main_v6 : FVec F S1024x256 .f32 := mulf main_v1 main_v1
  let main_cst_1 : FVec F S_ .f32 := constant S_ .f32 0x00000000#32
  let main_v7 : FVec F S256 .f32 := (fun x v => Host.reduceAdd x v reducesTo_S1024x256_S256_d0 h_S_) main_v6 main_cst_1
  let main_cst_2 : FVec F S_ .f32 := constant S_ .f32 0x40000000#32
  let main_v8 : FVec F S256 .f32 := broadcastInDim S256 ![] bcast_S_S256 main_cst_2
  let main_v9 : IVec S256 1 := cmpf .ole main_v7 main_v8
  (main_v5, main_v9)
-- ==== Kernel.lean ====
abbrev S256x1024 : Shape := ⟨2, ![256, 1024]⟩
abbrev S1024x256 : Shape := ⟨2, ![1024, 256]⟩
abbrev S3x128x1024 : Shape := ⟨3, ![3, 128, 1024]⟩
abbrev S3x4 : Shape := ⟨2, ![3, 4]⟩
abbrev S_ : Shape := ⟨0, ![]⟩
abbrev S1x1 : Shape := ⟨2, ![1, 1]⟩
abbrev S1x32x1024 : Shape := ⟨3, ![1, 32, 1024]⟩
abbrev S32x1024 : Shape := ⟨2, ![32, 1024]⟩
abbrev S256x256 : Shape := ⟨2, ![256, 256]⟩
abbrev S32x256 : Shape := ⟨2, ![32, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S1024x256, .f32⟩
  | .local _ .vmem, ⟨0, _⟩ => ⟨S256x1024, .bf16⟩
  | .local _ .vmem, ⟨1, _⟩ => ⟨S1024x256, .bf16⟩
  | .local _ .vmem, ⟨2, _⟩ => ⟨S1024x256, .f32⟩
  | .local _ .vmem, ⟨3, _⟩ => ⟨S3x128x1024, .bf16⟩
  | .local _ .vmem, ⟨4, _⟩ => ⟨S3x128x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v30 : BitVec 32 := Scalar.muli v24 c1_i32_24
  let v31 : BitVec 32 := Scalar.addi c0_i32_25 v30
  v31.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v39 : BitVec 32 := Scalar.muli v13 c1_i32_35
  let v40 : BitVec 32 := Scalar.addi c0_i32_36 v39
  v40.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_45 : BitVec 32 := 1#32
  let v48 : BitVec 32 := Scalar.muli v24 c1_i32_45
  let v49 : BitVec 32 := Scalar.addi c0_i32_46 v48
  v49.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v57 : BitVec 32 := Scalar.muli v13 c1_i32_55
  let v58 : BitVec 32 := Scalar.addi c0_i32_56 v57
  v58.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_65 : BitVec 32 := 1#32
  let v66 : BitVec 32 := Scalar.muli v24 c1_i32_65
  let v67 : BitVec 32 := Scalar.addi c0_i32_66 v66
  v67.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v75 : BitVec 32 := Scalar.muli v13 c1_i32_75
  let v76 : BitVec 32 := Scalar.addi c0_i32_76 v75
  v76.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_84 : BitVec 32 := 1#32
  let v84 : BitVec 32 := Scalar.muli v24 c1_i32_84
  let v85 : BitVec 32 := Scalar.addi c0_i32_85 v84
  v85.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v93 : BitVec 32 := Scalar.muli v13 c1_i32_94
  let v94 : BitVec 32 := Scalar.addi c0_i32_95 v93
  v94.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v109 : BitVec 32 := Scalar.muli v2 c256_i32
  let c0_i32_102 : BitVec 32 := 0#32
  let v110 : BitVec 32 := Scalar.addi v109 c0_i32_102
  let v111 : Index := Scalar.indexCast v110
  let c0_103 : Index := 0#32
  ![v111.toNat, 0]
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_121 : BitVec 32 := 1#32
  let v120 : BitVec 32 := Scalar.muli v24 c1_i32_121
  let v121 : BitVec 32 := Scalar.addi c0_i32_122 v120
  v121.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v137 : BitVec 32 := Scalar.muli v13 c1_i32_144
  let v138 : BitVec 32 := Scalar.addi c0_i32_145 v137
  v138.toNat
def k0_dev13 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_167 : BitVec 32 := 1#32
  let v154 : BitVec 32 := Scalar.muli v24 c1_i32_167
  let v155 : BitVec 32 := Scalar.addi c0_i32_168 v154
  v155.toNat
def k0_dev14 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_190 : BitVec 32 := 1#32
  let v171 : BitVec 32 := Scalar.muli v13 c1_i32_190
  let v172 : BitVec 32 := Scalar.addi c0_i32_191 v171
  v172.toNat
def k0_dev15 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_213 : BitVec 32 := 1#32
  let v188 : BitVec 32 := Scalar.muli v24 c1_i32_213
  let v189 : BitVec 32 := Scalar.addi c0_i32_214 v188
  v189.toNat
def k0_dev16 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_236 : BitVec 32 := 1#32
  let v205 : BitVec 32 := Scalar.muli v13 c1_i32_236
  let v206 : BitVec 32 := Scalar.addi c0_i32_237 v205
  v206.toNat
def k0_dev17 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_259 : BitVec 32 := 1#32
  let v222 : BitVec 32 := Scalar.muli v24 c1_i32_259
  let v223 : BitVec 32 := Scalar.addi c0_i32_260 v222
  v223.toNat
def k0_dev18 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_282 : BitVec 32 := 1#32
  let v239 : BitVec 32 := Scalar.muli v13 c1_i32_282
  let v240 : BitVec 32 := Scalar.addi c0_i32_283 v239
  v240.toNat
def k0_off2 (d0 : Dev nD) (c1_i32_291 : BitVec 32) (c0_i32_302 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v251 : BitVec 32 := Scalar.subi v2 c1_i32_291
  let c4_i32_292 : BitVec 32 := 4#32
  let c0_i32_293 : BitVec 32 := 0#32
  let v252 : BitVec 1 := Scalar.cmpi .eq c4_i32_292 c0_i32_293
  let c1_i32_294 : BitVec 32 := 1#32
  let v253 : BitVec 32 := Scalar.select v252 c1_i32_294 c4_i32_292
  let v254 : BitVec 32 := Scalar.remsi v251 v253
  let c0_i32_296 : BitVec 32 := 0#32
  let v256 : BitVec 1 := Scalar.cmpi .slt v254 c0_i32_296
  let c0_i32_297 : BitVec 32 := 0#32
  let v257 : BitVec 1 := Scalar.cmpi .slt v253 c0_i32_297
  let v258 : BitVec 1 := Scalar.xori v256 v257
  let c0_i32_295 : BitVec 32 := 0#32
  let v255 : BitVec 1 := Scalar.cmpi .ne v254 c0_i32_295
  let v259 : BitVec 1 := Scalar.andi v258 v255
  let v260 : BitVec 32 := Scalar.addi v254 v253
  let v261 : BitVec 32 := Scalar.select v259 v260 v254
  let c256_i32_301 : BitVec 32 := 256#32
  let v267 : BitVec 32 := Scalar.muli v261 c256_i32_301
  let v268 : BitVec 32 := Scalar.addi v267 c0_i32_302
  let v269 : Index := Scalar.indexCast v268
  let c0_303 : Index := 0#32
  ![v269.toNat, 0]
def k0_off2_at (r : Fin 12) : BitVec 32 × BitVec 32 :=
  if r.val < 6 then
    if r.val < 3 then
      if r.val < 1 then
        (1#32, 0#32)
      else
        if r.val < 2 then
          (1#32, 32#32)
        else
          (1#32, 64#32)
    else
      if r.val < 4 then
        (1#32, 96#32)
      else
        if r.val < 5 then
          (2#32, 0#32)
        else
          (2#32, 32#32)
  else
    if r.val < 9 then
      if r.val < 7 then
        (2#32, 64#32)
      else
        if r.val < 8 then
          (2#32, 96#32)
        else
          (1#32, 128#32)
    else
      if r.val < 10 then
        (1#32, 160#32)
      else
        if r.val < 11 then
          (1#32, 192#32)
        else
          (1#32, 224#32)
def k0_off3 (d0 : Dev nD) (c1_i32_307 : BitVec 32) (c128_i32_318 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v273 : BitVec 32 := Scalar.addi v2 c1_i32_307
  let c4_i32_308 : BitVec 32 := 4#32
  let c0_i32_309 : BitVec 32 := 0#32
  let v274 : BitVec 1 := Scalar.cmpi .eq c4_i32_308 c0_i32_309
  let c1_i32_310 : BitVec 32 := 1#32
  let v275 : BitVec 32 := Scalar.select v274 c1_i32_310 c4_i32_308
  let v276 : BitVec 32 := Scalar.remsi v273 v275
  let c0_i32_312 : BitVec 32 := 0#32
  let v278 : BitVec 1 := Scalar.cmpi .slt v276 c0_i32_312
  let c0_i32_313 : BitVec 32 := 0#32
  let v279 : BitVec 1 := Scalar.cmpi .slt v275 c0_i32_313
  let v280 : BitVec 1 := Scalar.xori v278 v279
  let c0_i32_311 : BitVec 32 := 0#32
  let v277 : BitVec 1 := Scalar.cmpi .ne v276 c0_i32_311
  let v281 : BitVec 1 := Scalar.andi v280 v277
  let v282 : BitVec 32 := Scalar.addi v276 v275
  let v283 : BitVec 32 := Scalar.select v281 v282 v276
  let c256_i32_317 : BitVec 32 := 256#32
  let v289 : BitVec 32 := Scalar.muli v283 c256_i32_317
  let v290 : BitVec 32 := Scalar.addi v289 c128_i32_318
  let v291 : Index := Scalar.indexCast v290
  let c0_319 : Index := 0#32
  ![v291.toNat, 0]
def k0_off3_at (r : Fin 12) : BitVec 32 × BitVec 32 :=
  if r.val < 6 then
    if r.val < 3 then
      if r.val < 1 then
        (1#32, 128#32)
      else
        if r.val < 2 then
          (1#32, 160#32)
        else
          (1#32, 192#32)
    else
      if r.val < 4 then
        (1#32, 224#32)
      else
        if r.val < 5 then
          (2#32, 128#32)
        else
          (2#32, 160#32)
  else
    if r.val < 9 then
      if r.val < 7 then
        (2#32, 192#32)
      else
        if r.val < 8 then
          (2#32, 224#32)
        else
          (1#32, 0#32)
    else
      if r.val < 10 then
        (1#32, 32#32)
      else
        if r.val < 11 then
          (1#32, 64#32)
        else
          (1#32, 96#32)
def k0_dev19 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_431 : BitVec 32 := 1#32
  let v433 : BitVec 32 := Scalar.muli v24 c1_i32_431
  let v434 : BitVec 32 := Scalar.addi c0_i32_432 v433
  v434.toNat
def k0_dev20 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_455 : BitVec 32 := 1#32
  let v451 : BitVec 32 := Scalar.muli v13 c1_i32_455
  let v452 : BitVec 32 := Scalar.addi c0_i32_456 v451
  v452.toNat
def k0_dev21 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_479 : BitVec 32 := 1#32
  let v469 : BitVec 32 := Scalar.muli v24 c1_i32_479
  let v470 : BitVec 32 := Scalar.addi c0_i32_480 v469
  v470.toNat
def k0_dev22 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_503 : BitVec 32 := 1#32
  let v487 : BitVec 32 := Scalar.muli v13 c1_i32_503
  let v488 : BitVec 32 := Scalar.addi c0_i32_504 v487
  v488.toNat
def k0_dev23 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_527 : BitVec 32 := 1#32
  let v505 : BitVec 32 := Scalar.muli v24 c1_i32_527
  let v506 : BitVec 32 := Scalar.addi c0_i32_528 v505
  v506.toNat
def k0_dev24 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_551 : BitVec 32 := 1#32
  let v523 : BitVec 32 := Scalar.muli v13 c1_i32_551
  let v524 : BitVec 32 := Scalar.addi c0_i32_552 v523
  v524.toNat
def k0_dev25 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_575 : BitVec 32 := 1#32
  let v541 : BitVec 32 := Scalar.muli v24 c1_i32_575
  let v542 : BitVec 32 := Scalar.addi c0_i32_576 v541
  v542.toNat
def k0_dev26 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v559 : BitVec 32 := Scalar.muli v13 c1_i32_599
  let v560 : BitVec 32 := Scalar.addi c0_i32_600 v559
  v560.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Steps.lean ====
/-
# The kernel as a list of steps

The body's ninety-seven steps are of five kinds: start a copy, wait until a copy has arrived, wait until a copy has
left, and the two computations (the device's own block, and one landed chunk). This module names the chunks (`place`),
the copies (`Tr`), their semaphores, the steps, and shows that the printed body is `run` of the list `steps` after the
opening handshake.
-/
module

public import proofs.«01_k».proof.Proof.Gen.KernelIdeal.Frame
public import proofs.«01_k».proof.Proof.Gen.KernelIdeal.Skeleton

@[expose] public section

noncomputable section

namespace Cert.Ring

open Cert.KernelIdeal Cert.KernelIdeal.Gen
open Idealize.ShloMosaic Idealize.ShloMosaic.TcCoe Idealize.ShloMosaic.Tactic
open Idealize.SL Idealize.SL.Sem

variable {F : FTy → Type} [FloatOps F]

/-- A copy: its direction (`false` to the right neighbour, `true` to the left), its hop and its quarter. -/
abbrev Tr := Bool × Fin 3 × Fin 4

/-- A chunk of 32 rows on a device: direction, number of hops it has travelled, quarter. -/
abbrev Pl := Bool × Fin 4 × Fin 4

/-- Where a copy reads: the chunk after `hop` hops. -/
def Tr.src (j : Tr) : Pl := (j.1, j.2.1.castSucc, j.2.2)
/-- Where a copy lands: the chunk after one hop more. -/
def Tr.dst (j : Tr) : Pl := (j.1, j.2.1.succ, j.2.2)

/-- The first row, in the device's block of `x`, of a quarter of a direction's half. -/
def row0 (d : Bool) (q : Fin 4) : ℕ := 128 * d.toNat + 32 * q.val

theorem inb_x (d : Bool) (q : Fin 4) : ∀ a, (![row0 d q, 0] : Fin 2 → ℕ) a + S32x1024.size a ≤ S256x1024.size a := by
  revert d q; decide
theorem inb_slot (h : Fin 3) (q : Fin 4) :
    ∀ a, (![h.val, 32 * q.val, 0] : Fin 3 → ℕ) a + S1x32x1024.size a ≤ S3x128x1024.size a := by
  revert h q; decide

/-- The rows of a chunk in the block of `x`. -/
abbrev xRect (d : Bool) (q : Fin 4) : Rect S256x1024 := Rect.unit ![row0 d q, 0] S32x1024.size (inb_x d q)
/-- A chunk's slot in a direction's landing buffer. -/
abbrev slotRect (h : Fin 3) (q : Fin 4) : Rect S3x128x1024 := Rect.unit ![h.val, 32 * q.val, 0] S1x32x1024.size (inb_slot h q)

theorem words_x (d : Bool) (q : Fin 4) : (xRect d q).WholeWords (EltTy.packing .bf16) := by revert d q; decide
theorem words_slot (h : Fin 3) (q : Fin 4) : (slotRect h q).WholeWords (EltTy.packing .bf16) := by revert h q; decide

/-- The three staged blocks. -/
abbrev xM : Memref sig .tc .vmem S256x1024 .bf16 := Memref.whole cc0_stg0_0
abbrev wM : Memref sig .tc .vmem S1024x256 .bf16 := Memref.whole cc0_stg1_0
abbrev oM : Memref sig .tc .vmem S1024x256 .f32 := Memref.whole cc0_stg2_0

/-- A direction's landing buffer. -/
def comm : Bool → Memref sig .tc .vmem S3x128x1024 .bf16
  | false => Memref.whole cc0_scratch0
  | true => Memref.whole cc0_scratch1

theorem comm_isWhole : ∀ d, (comm d).IsWhole
  | false => Memref.isWhole_whole _
  | true => Memref.isWhole_whole _

/-- A slot of a landing buffer as a chunk. -/
def slot (d : Bool) (h : Fin 3) (q : Fin 4) : Memref sig .tc .vmem S32x1024 .bf16 :=
  ((comm d).slice (slotRect h q) (fun _ => rfl)).squeeze S32x1024 squeezes_S1x32x1024_S32x1024

/-- A chunk's memory: rows of the `x` block before the first hop, a landing slot after it. -/
def place : Pl → Memref sig .tc .vmem S32x1024 .bf16
  | (d, l, q) => Fin.cases (xM.slice (xRect d q) (fun _ => rfl)) (fun h => slot d h q) l

theorem slot_wordExact (d : Bool) (h : Fin 3) (q : Fin 4) : (slot d h q).view.WordExact :=
  ((comm_isWhole d).wordExact_slice rfl _ (words_slot h q)).reshape _ _

theorem place_wordExact : ∀ p : Pl, (place p).view.WordExact := by
  rintro ⟨d, l, q⟩
  refine Fin.cases ?_ (fun h => ?_) l
  · exact (Memref.isWhole_whole _).wordExact_slice rfl _ (words_x d q)
  · exact slot_wordExact d h q

/-- A copy's position among the twelve of its direction. -/
def Tr.ix (j : Tr) : ℕ := 4 * j.2.1.val + j.2.2.val
/-- The semaphore a copy signals at its sender, when its source is free. -/
def sSem (j : Tr) : DmaSem sig := ⟨3 + 24 * j.1.toNat + j.ix, by revert j; decide⟩
/-- The semaphore a copy signals at its receiver, when it has landed. -/
def rSem (j : Tr) : DmaSem sig := ⟨15 + 24 * j.1.toNat + j.ix, by revert j; decide⟩

/-- The device a copy goes to, as the kernel computes it. -/
def pdev (c : Dev nD) : Bool → Dev nD
  | false => ⟨k0_dev3 c, k0_dev3_lt c⟩
  | true => ⟨k0_dev4 c, k0_dev4_lt c⟩

/-- The first output row of a landed chunk, as the kernel computes it: the left neighbours' chunks by `k0_off2`, the
    right neighbours' by `k0_off3`, and the third hop's by the way round that is one step. -/
def poff (c : Dev nD) : Tr → (Fin 2 → ℕ)
  | (false, h, q) => if h = 2 then k0_off3 c 1#32 (BitVec.ofNat 32 (32 * q.val))
      else k0_off2 c (BitVec.ofNat 32 (h.val + 1)) (BitVec.ofNat 32 (32 * q.val))
  | (true, h, q) => if h = 2 then k0_off2 c 1#32 (BitVec.ofNat 32 (128 + 32 * q.val))
      else k0_off3 c (BitVec.ofNat 32 (h.val + 1)) (BitVec.ofNat 32 (128 + 32 * q.val))

/-- The right and the left neighbour. -/
def nbr (c : Dev nD) : Bool → Dev nD
  | false => c + 1
  | true => c - 1

/-- The device whose block of `x` a chunk comes from. -/
def orig (c : Dev nD) : Pl → Dev nD
  | (false, l, _) => c - l
  | (true, l, _) => c + l

theorem pdev_eq (c : Dev nD) (d : Bool) : pdev c d = nbr c d := by revert c d; decide
theorem dev1_eq (c : Dev nD) : (⟨k0_dev1 c, k0_dev1_lt c⟩ : Dev nD) = nbr c true := by revert c; decide
theorem dev2_eq (c : Dev nD) : (⟨k0_dev2 c, k0_dev2_lt c⟩ : Dev nD) = nbr c false := by revert c; decide
theorem poff_eq (c : Dev nD) (j : Tr) : poff c j = ![256 * (orig c j.dst).val + row0 j.1 j.2.2, 0] := by
  revert c j; decide +kernel
theorem poff_inb (c : Dev nD) (j : Tr) : ∀ a, poff c j a + S32x256.size a ≤ S1024x256.size a := by
  revert c j; decide +kernel

/-- The output rows a landed chunk's product goes to. -/
abbrev oRect (c : Dev nD) (j : Tr) : Rect S1024x256 := Rect.unit (poff c j) S32x256.size (poff_inb c j)
/-- The output rows the device's own product goes to. -/
abbrev ownRect (c : Dev nD) : Rect S1024x256 := Rect.unit (k0_off1 c) S256x256.size (k0_off1_inb c)
abbrev wRect : Rect S1024x256 := Rect.unit ![0, 0] S1024x256.size inb_S1024x256_S1024x256_0_0
abbrev xAll : Rect S256x1024 := Rect.unit ![0, 0] S256x1024.size inb_S256x1024_S256x1024_0_0

/-- One step of the body. -/
inductive Step
  /-- Start a copy. -/
  | send (j : Tr)
  /-- Wait for the arrival of the copy of the same name from the neighbour. -/
  | recv (j : Tr)
  /-- Wait until the source of a copy is free. -/
  | ack (j : Tr)
  /-- Multiply the device's own block and store. -/
  | own
  /-- Multiply a landed chunk and store. -/
  | comp (j : Tr)
  deriving DecidableEq

/-- A step as the kernel performs it on device `c`, before `k`. -/
def exec (c : Dev nD) (s : Step) (k : Prog (TpuEff nD τ sig (Elt F) Λ₀ .tc) PUnit) :
    Prog (TpuEff nD τ sig (Elt F) Λ₀ .tc) PUnit :=
  match s with
  | .send j => .op (.enqueueDma (place j.src) (.remote (Dev.tc (pdev c j.1)) (place j.dst) (.dma (sSem j))) (.dma (rSem j))
      (place_wordExact j.src) (place_wordExact j.dst : (place j.dst).view.WordExact) ⟨⟨rfl, Or.inl rfl⟩, trivial⟩) fun _ => k
  | .recv j => .op (.waitDma2 (rSem j) (place j.src) (place j.dst) (place_wordExact _) (place_wordExact _)) fun _ => k
  | .ack j => .op (.waitDma2 (sSem j) (place j.dst) (place j.src) (place_wordExact _) (place_wordExact _)) fun _ => k
  | .own => .op (.load xM xAll.toLoadRect (View.loadsAt_vmem h_S256x1024)) fun v =>
      .op (.load wM wRect.toLoadRect (View.loadsAt_vmem h_S1024x256)) fun w =>
      .op (.load oM (ownRect c).toLoadRect (View.loadsAt_vmem h_S256x256)) fun _ =>
      .op (.store oM (ownRect c) (k0_pay1 v w) Finset.univ (View.stores_vmem_bits_univ h_S256x256 rfl) (.inl rfl)) fun _ => k
  | .comp j => .op (.load (comm j.1) (slotRect j.2.1 j.2.2).toLoadRect (View.loadsAt_vmem h_S1x32x1024)) fun v =>
      .op (.load wM wRect.toLoadRect (View.loadsAt_vmem h_S1024x256)) fun w =>
      .op (.load oM (oRect c j).toLoadRect (View.loadsAt_vmem h_S32x256)) fun _ =>
      .op (.store oM (oRect c j) (k0_pay3 (k0_pay2 v) w) Finset.univ (View.stores_vmem_bits_univ h_S32x256 rfl) (.inl rfl)) fun _ => k

/-- The steps of a list one after another. -/
def run (c : Dev nD) : List Step → Prog (TpuEff nD τ sig (Elt F) Λ₀ .tc) PUnit
  | [] => .ret ⟨⟩
  | s :: l => exec c s (run c l)

/-- For each quarter, the steps of that quarter. -/
def quarters (f : Fin 4 → List Step) : List Step := f 0 ++ f 1 ++ f 2 ++ f 3

/-- A middle phase: the hop's copies forwarded as their chunks land, then the landed chunks multiplied. -/
def phase (h h' : Fin 3) : List Step :=
  (quarters fun q => [.recv (false, h, q), .send (false, h', q), .recv (true, h, q), .send (true, h', q)])
    ++ quarters fun q => [.comp (false, h, q), .comp (true, h, q)]

/-- The body's steps in order. -/
def steps : List Step :=
  (quarters fun q => [.send (false, 0, q), .send (true, 0, q)]) ++ [.own] ++ phase 0 1 ++ phase 1 2
    ++ (quarters fun q => [.recv (false, 2, q), .comp (false, 2, q), .recv (true, 2, q), .comp (true, 2, q)])
    ++ (quarters fun q => [.ack (false, 0, q), .ack (true, 0, q)])
    ++ (quarters fun q => [.ack (false, 1, q), .ack (true, 1, q)])
    ++ (quarters fun q => [.ack (false, 2, q), .ack (true, 2, q)])

/-- The neighbours' handshake semaphore. -/
abbrev bar : Sem sig := (SemArray.scalar (sig.barrier 0 rfl) : Sems sig S_).sem

/-- The body: a signal to each neighbour, a wait for both of theirs, then the steps. -/
theorem body_eq (t : Fin cfg0.N) : bodyAt0 (F := F) t =
    .op .deviceId fun c => semSignalWord (⟨k0_dev1 c, k0_dev1_lt c⟩ : Dev nD) bar 1#32 >>= fun _ =>
      semSignalWord (⟨k0_dev2 c, k0_dev2_lt c⟩ : Dev nD) bar 1#32 >>= fun _ =>
      semWaitWord bar 2#32 >>= fun _ => run c steps := by
  obtain rfl : t = t0_0 := fin_N0 t
  chain_rfl

end Cert.Ring

end
-- ==== Proof.Protocol.lean ====
/-
# The rounds of the ring

Every device has forty-nine cells: its handshake semaphore, and for each of the twenty-four copies the semaphore that
says its source is free and the one that says the neighbour's copy has landed here. Each cell runs one round. This
module gives the contents a chunk carries, what each cell hands over, the levels that order the waits, and what a device
owes while some of its copies have not started.
-/
module

public import proofs.«01_k».proof.Proof.Steps
public import Idealize.ShloMosaic.Lib.Memref
public import Idealize.ShloMosaic.Lib.Pipeline.Launch
public import Idealize.ShloMosaic.Lib.Pipeline.Kit
public import Idealize.ShloMosaic.Lib.Tactic
public import Idealize.ShloMosaic.Lib.StableHlo.CollectiveRules
public import Mathlib.Data.Fintype.Option

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Every device's block of `x`, and every device's block of `w`. -/
abbrev XBlk (F : FTy → Type) : Type := Dev nD → (cc0_stg0_0 : Ref sig .tc).ty.Contents (Elt F)
abbrev WBlk (F : FTy → Type) : Type := Dev nD → (cc0_stg1_0 : Ref sig .tc).ty.Contents (Elt F)

variable (X : XBlk F)

/-! ## Cells -/

/-- A device's cells: the handshake, and per copy the sender's cell (`false`) and the receiver's (`true`). -/
abbrev Cell := Option (Bool × Tr)

/-- The semaphore of a cell. -/
def csem : Cell → SemLoc sig
  | none => .reg bar
  | some (false, j) => .dma (sSem j)
  | some (true, j) => .dma (rSem j)

theorem csem_injective : Function.Injective csem := by
  have h : ∀ x y : Bool × Tr, csem (some x) = csem (some y) → x = y := by decide +kernel
  rintro (_ | x) (_ | y) e
  · rfl
  · obtain ⟨b, j⟩ := y; cases b <;> cases e
  · obtain ⟨b, j⟩ := x; cases b <;> cases e
  · rw [h x y e]

/-- A device's cell as the machine names it. -/
abbrev gcell (c : Dev nD) (k : Cell) : GSem nD τ sig := ((c : Thread nD τ), csem k)

theorem gcell_inj {c c' : Dev nD} {k k' : Cell} (h : gcell c k = gcell c' k') : c = c' ∧ k = k' :=
  ⟨congrArg (fun g : GSem nD τ sig => g.1.1) h, csem_injective (congrArg Prod.snd h)⟩

/-- The credit of one chunk's copy. -/
abbrev N : ℕ := (place (false, 0, 0)).view.dmaCredit
theorem credit_eq (p : Pl) : (place p).view.dmaCredit = N := by
  obtain ⟨d, l, q⟩ := p
  refine Fin.cases rfl (fun h => ?_) l
  cases d <;> rfl
theorem N_pos : 0 < N := View.dmaCredit_pos _ (by decide)

/-! ## Contents -/

/-- The rows of a chunk in the block of `x` it comes from. -/
def rowsOf (Y : (cc0_stg0_0 : Ref sig .tc).ty.Contents (Elt F)) (d : Bool) (q : Fin 4) : Vec F S32x1024 .bf16 :=
  (xM.slice (xRect d q) (fun _ => rfl)).view.read (Elt F) Y

/-- What a chunk on device `c` holds. -/
def chunk (c : Dev nD) (p : Pl) : Vec F S32x1024 .bf16 := rowsOf (X (orig c p)) p.1 p.2.2

theorem orig_step (c : Dev nD) (j : Tr) : orig (nbr c j.1) j.dst = orig c j.src := by revert c j; decide +kernel

/-- A copy carries the sender's chunk to the receiver's. -/
theorem chunk_step (c : Dev nD) (j : Tr) : chunk X (nbr c j.1) j.dst = chunk X c j.src := by
  unfold chunk; rw [orig_step]; rfl

theorem nbr_nbr (c : Dev nD) (d : Bool) : nbr (nbr c d) (!d) = c := by revert c d; decide
theorem nbr_nbr' (c : Dev nD) (d : Bool) : nbr (nbr c (!d)) d = c := by revert c d; decide

/-- A chunk's memory on device `c`, held at share `q` with contents `Y`. -/
abbrev has (c : Dev nD) (p : Pl) (q : PosShare TreeShare) (Y : Vec F S32x1024 .bf16) : sProp 𝕄 :=
  owns (c : Thread nD τ) (place p) q Y

/-! ## The schedule -/

/-- What a cell's duty hands the waiter. The handshake: the neighbour's landing slots of the direction. A sender's cell:
    half of the source back. A receiver's cell: the landed chunk. -/
def pay (c : Dev nD) : Cell → Bool → sProp 𝕄
  | none, d => bigSep Finset.univ fun hq : Fin 3 × Fin 4 => iprop(∃ Y, has (nbr c d) (Tr.dst (d, hq)) fullShare Y)
  | some (false, j), _ => has c j.src fullShare.left (chunk X c j.src)
  | some (true, j), _ => has c j.dst fullShare (chunk X c j.dst)

instance pay_storable (c : Dev nD) (k : Cell) (d : Bool) : BI.Storable (upEmb : UEmb _ 𝕄) (pay X c k d) := by
  unfold pay; split <;> infer_instance

open Classical in
/-- One round per cell: the handshake has a duty of one unit for each neighbour, every other cell one duty of a chunk. -/
def sched : Rounds.Schedule (GSem nD τ sig) Bool 𝕄 where
  duties g r := if r = 0 ∧ g.1.2 = .tc ∧ g.2 ∈ Set.range csem then (if g.2 = .reg bar then Finset.univ else {false}) else ∅
  unitless _ := False
  amount g _ _ := if g.2 = .reg bar then 1 else N
  payload g _ d := pay X g.1.1 (Function.invFun csem g.2) d
  amount_pos g _ _ _ := by split <;> [exact Nat.one_pos; exact N_pos]

instance sched_storable (g : GSem nD τ sig) (r : ℕ) (d : Bool) : BI.Storable (upEmb : UEmb _ 𝕄) ((sched X).payload g r d) := by
  show BI.Storable upEmb (pay X g.1.1 (Function.invFun csem g.2) d); infer_instance

theorem csem_some_ne (x : Bool × Tr) : csem (some x) ≠ .reg bar := by
  obtain ⟨b, j⟩ := x; cases b <;> exact fun h => by cases h

theorem duties_bar (c : Dev nD) : (sched X).duties (gcell c none) 0 = Finset.univ := by
  dsimp only [sched]; rw [if_pos ⟨rfl, rfl, Set.mem_range_self _⟩]; exact if_pos rfl
theorem duties_some (c : Dev nD) (x : Bool × Tr) : (sched X).duties (gcell c (some x)) 0 = {false} := by
  dsimp only [sched]; rw [if_pos ⟨rfl, rfl, Set.mem_range_self _⟩]; exact if_neg (csem_some_ne x)
theorem duties_later (g : GSem nD τ sig) : ∀ r, 1 ≤ r → (sched X).duties g r = ∅ :=
  fun r hr => by dsimp only [sched]; exact if_neg fun h => by omega
theorem amount_bar (c : Dev nD) (d : Bool) : (sched X).amount (gcell c none) 0 d = 1 := by dsimp only [sched]; exact if_pos rfl
theorem amount_some (c : Dev nD) (x : Bool × Tr) (d : Bool) : (sched X).amount (gcell c (some x)) 0 d = N := by
  dsimp only [sched]; exact if_neg (csem_some_ne x)
theorem payload_eq (c : Dev nD) (k : Cell) (d : Bool) : (sched X).payload (gcell c k) 0 d = pay X c k d := by
  dsimp only [sched]; rw [Function.leftInverse_invFun csem_injective k]
theorem expect_bar (c : Dev nD) : (sched X).expect (gcell c none) 0 = 2 := by
  unfold Schedule.expect Schedule.amountOf
  rw [duties_bar, Finset.sum_congr rfl fun d _ => amount_bar X c d]; rfl
theorem expect_some (c : Dev nD) (x : Bool × Tr) : (sched X).expect (gcell c (some x)) 0 = N := by
  unfold Schedule.expect Schedule.amountOf; rw [duties_some, Finset.sum_singleton, amount_some]

/-- What a wait on the handshake brings. -/
theorem rest_bar (c : Dev nD) : bigSep ((sched X).duties (gcell c none) 0 \ ∅) (fun d => (sched X).payload (gcell c none) 0 d)
    = iprop(pay X c none false ∗ pay X c none true) := by
  rw [Finset.sdiff_empty, duties_bar, bigSep_univ_eq_bigSepL [false, true] (by decide) (by decide), bigSepL_cons_cons, bigSepL_singleton,
    payload_eq, payload_eq]
  rfl
/-- What a wait on another cell brings. -/
theorem rest_some (c : Dev nD) (x : Bool × Tr) :
    bigSep ((sched X).duties (gcell c (some x)) 0 \ ∅) (fun d => (sched X).payload (gcell c (some x)) 0 d) = pay X c (some x) false := by
  rw [Finset.sdiff_empty, duties_some, bigSep_singleton, payload_eq]

/-! ## Debts and levels -/

/-- What device `c` owes while the copies `s` have not started: a chunk's credit to each one's receiver. -/
def owed (c : Dev nD) (s : Finset Tr) : CellTallies nD τ sig Unit :=
  ∑ j ∈ s, tallyAt (gcell (nbr c j.1) (some (true, j))) () N

theorem owed_erase (c : Dev nD) {s : Finset Tr} {j : Tr} (hj : j ∈ s) :
    owed c s = owed c (s.erase j) + tallyAt (gcell (nbr c j.1) (some (true, j))) () N :=
  (Finset.sum_erase_add s _ hj).symm

/-- At launch a device also owes both neighbours' handshakes one unit. -/
def owed0 (c : Dev nD) : CellTallies nD τ sig Unit :=
  (owed c Finset.univ + tallyAt (gcell (nbr c false) none) () 1) + tallyAt (gcell (nbr c true) none) () 1

/-- The indices of a cell's tallies: the TensorCores' cells have one. -/
def L (g : GSem nD τ sig) : Finset Unit := if g.1.2 = .tc then {()} else ∅

/-- Staging and sender's cells at 0, the handshake at 1, a receiver's cell at 2 plus its hop. -/
def lv (g : GSem nD τ sig) (_ : Unit) : ℕ :=
  match g.2 with
  | .reg _ => 1
  | .dma s => if 3 ≤ s.val ∧ 12 ≤ (s.val - 3) % 24 then 2 + ((s.val - 3) % 24 - 12) / 4 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Tr) : lv (gcell c (some (true, j))) () = 2 + j.2.1.val := by
  have h : ∀ j : Tr, lv (gcell 0 (some (true, j))) () = 2 + j.2.1.val := by decide +kernel
  exact h j

/-- A debt is a started copy's credit at its receiver. -/
theorem owed_mem {c : Dev nD} {s : Finset Tr} {g : GSem nD τ sig} {u : Unit} (h : 0 < owed c s g u) :
    ∃ j ∈ s, g = gcell (nbr c j.1) (some (true, j)) := by
  by_contra hn
  push Not at hn
  have : owed c s g u = 0 := by
    unfold owed
    rw [Finset.sum_apply, Finsupp.finsetSum_apply]
    exact Finset.sum_eq_zero fun j hj => by rw [tallyAt_apply]; exact if_neg fun h' => hn j hj h'.1
  omega

/-- A wait at level `b` is allowed when everything owed is at a later hop. -/
theorem mayWait_of (c : Dev nD) (sm : SemLoc sig) (b : ℕ) (s : Finset Tr) (hb : lv ((c : Thread nD τ), sm) () ≤ b)
    (hs : ∀ j ∈ s, b < 2 + j.2.1.val) : (levAts L lv : sProp 𝕄) ⊢ MayWait (c : Thread nD τ) sm () (owed c s) :=
  MayOwe.of_cut (L := L) (lev := lv) b (fun p hp => by rw [Finset.mem_singleton.mp hp, L_tc]; exact Finset.mem_singleton_self _)
    (fun g u hg => by obtain ⟨j, -, rfl⟩ := owed_mem hg; rw [L_tc]; exact Finset.mem_singleton_self _)
    (fun p hp => by rw [Finset.mem_singleton.mp hp]; exact hb)
    (fun g u hg => by obtain ⟨j, hj, rfl⟩ := owed_mem hg; cases u; rw [lv_recv]; exact hs j hj)

end Cert.Ring

end
-- ==== Proof.Output.lean ====
/-
# The output, block by block

Device `c` writes its output in twenty-five blocks: 256 rows for its own block of `x` and 32 rows for each landed chunk.
`outT` is the array they add up to, and a block written at its value agrees with it.
-/
module

public import proofs.«01_k».proof.Proof.Protocol

@[expose] public section

noncomputable section

namespace Cert.Ring

open Cert.KernelIdeal Cert.KernelIdeal.Gen
open Idealize.ShloMosaic Idealize.ShloMosaic.TcCoe Idealize.ShloMosaic.Tactic
open Idealize.SL Idealize.SL.Sem

variable {F : FTy → Type} [FloatOps F] (X : XBlk F) (Wm : WBlk F)

abbrev OutBuf (F : FTy → Type) : Type := (cc0_stg2_0 : Ref sig .tc).ty.Contents (Elt F)

/-- Row `r`, column `n` of device `c`'s output: of its own product when the row is one of its own block's, of the
    product of the 32-row chunk the row lies in otherwise. -/
def outRow (c : Dev nD) (r : Fin 1024) (n : Fin 256) : Elt F .f32 :=
  let o : Dev nD := ⟨r.val / 256, by show r.val / 256 < 4; have := r.isLt; omega⟩
  if o = c then k0_pay1 (X c) (Wm c) (Shape.pair ⟨r.val % 256, Nat.mod_lt _ (by decide)⟩ n)
  else k0_pay3 (rowsOf (X o) (decide (128 ≤ r.val % 256)) ⟨r.val % 128 / 32, by omega⟩) (Wm c)
    (Shape.pair ⟨r.val % 32, Nat.mod_lt _ (by decide)⟩ n)

/-- Device `c`'s output. -/
def outT (c : Dev nD) : OutBuf F := fun i => outRow X Wm c (i 0) (i 1)

theorem outRow_own (c : Dev nD) (r : Fin 1024) (n : Fin 256) (a : Fin 256) (h : r.val = 256 * c.val + a.val) :
    outRow X Wm c r n = k0_pay1 (X c) (Wm c) (Shape.pair a n) := by
  have ho : (⟨r.val / 256, by show r.val / 256 < 4; have := r.isLt; omega⟩ : Dev nD) = c := Fin.ext (by show r.val / 256 = c.val; have := a.isLt; omega)
  have ha : (⟨r.val % 256, Nat.mod_lt _ (by decide)⟩ : Fin 256) = a := Fin.ext (by show r.val % 256 = a.val; have := a.isLt; omega)
  unfold outRow; dsimp only; rw [if_pos ho]
  exact congrArg (fun z : Fin 256 => k0_pay1 (X c) (Wm c) (Shape.pair z n)) ha

theorem outRow_chunk (c o : Dev nD) (d : Bool) (q : Fin 4) (r : Fin 1024) (n : Fin 256) (a : Fin 32) (hoc : o ≠ c)
    (h : r.val = 256 * o.val + row0 d q + a.val) :
    outRow X Wm c r n = k0_pay3 (rowsOf (X o) d q) (Wm c) (Shape.pair a n) := by
  have hq := q.isLt; have ha := a.isLt
  have hr : row0 d q = 128 * d.toNat + 32 * q.val := rfl
  have hd : d.toNat ≤ 1 := Bool.toNat_le d
  have h1 : (⟨r.val / 256, by show r.val / 256 < 4; have := r.isLt; omega⟩ : Dev nD) = o := Fin.ext (by show r.val / 256 = o.val; omega)
  have h2 : decide (128 ≤ r.val % 256) = d := by
    cases d
    · exact decide_eq_false (by have : Bool.toNat false = 0 := rfl; omega)
    · exact decide_eq_true (by have : Bool.toNat true = 1 := rfl; omega)
  have h3 : (⟨r.val % 128 / 32, by omega⟩ : Fin 4) = q := Fin.ext (by show r.val % 128 / 32 = q.val; omega)
  have h4 : (⟨r.val % 32, Nat.mod_lt _ (by decide)⟩ : Fin 32) = a := Fin.ext (by show r.val % 32 = a.val; omega)
  unfold outRow; dsimp only; rw [if_neg (by rw [h1]; exact hoc), h1, h2, h3]
  exact congrArg (fun z : Fin 32 => k0_pay3 (rowsOf (X o) d q) (Wm c) (Shape.pair z n)) h4

theorem own_off (c : Dev nD) : k0_off1 c = ![256 * c.val, 0] := by revert c; decide

theorem orig_dst_ne (c : Dev nD) (j : Tr) : orig c j.dst ≠ c := by revert c j; decide +kernel

/-- The output at a landed chunk's rows is the chunk's product. -/
theorem outT_comp (c : Dev nD) (j : Tr) (k : S32x256.Idx) :
    outT X Wm c ((oRect c j).emb k) = k0_pay3 (chunk X c j.dst) (Wm c) k := by
  have e : k = Shape.pair (k 0) (k 1) := funext fun a => by fin_cases a <;> rfl
  have h0 : ((oRect c j).emb k 0 : ℕ) = 256 * (orig c j.dst).val + row0 j.1 j.2.2 + (k 0 : ℕ) := by
    rw [Rect.emb_apply]; show poff c j 0 + 1 * (k 0 : ℕ) = _; rw [poff_eq, Nat.one_mul]; rfl
  have h1 : (oRect c j).emb k 1 = k 1 := Fin.ext (by
    rw [Rect.emb_apply]; show poff c j 1 + 1 * (k 1 : ℕ) = _; rw [poff_eq, Nat.one_mul]; exact Nat.zero_add _)
  show outRow X Wm c ((oRect c j).emb k 0) ((oRect c j).emb k 1) = _
  rw [h1]
  refine (outRow_chunk X Wm c (orig c j.dst) j.1 j.2.2 _ (k 1) (k 0) (orig_dst_ne c j) h0).trans ?_
  rw [← e]; rfl

/-- The output at the device's own rows is its own product. -/
theorem outT_own (c : Dev nD) (k : S256x256.Idx) : outT X Wm c ((ownRect c).emb k) = k0_pay1 (X c) (Wm c) k := by
  have e : k = Shape.pair (k 0) (k 1) := funext fun a => by fin_cases a <;> rfl
  have hoff := own_off c
  have h0 : ((ownRect c).emb k 0 : ℕ) = 256 * c.val + (k 0 : ℕ) := by
    rw [Rect.emb_apply]; show k0_off1 c 0 + 1 * (k 0 : ℕ) = _; rw [hoff, Nat.one_mul]; rfl
  have h1 : (ownRect c).emb k 1 = k 1 := Fin.ext (by
    rw [Rect.emb_apply]; show k0_off1 c 1 + 1 * (k 1 : ℕ) = _; rw [hoff, Nat.one_mul]; exact Nat.zero_add _)
  show outRow X Wm c ((ownRect c).emb k 0) ((ownRect c).emb k 1) = _
  rw [h1]
  refine (outRow_own X Wm c _ (k 1) (k 0) h0).trans ?_
  rw [← e]

/-- The output rows of a block: the own block's (`none`) or a landed chunk's. -/
def blockSet (c : Dev nD) : Option Tr → Finset S1024x256.Idx
  | none => (ownRect c).set
  | some j => (oRect c j).set

/-- Storing a rectangle's value leaves the output right on it and where it was right before. -/
theorem agree_store (c : Dev nD) (r : Rect S1024x256) (w : r.shape.Idx → Elt F .f32)
    (hw : ∀ k, outT X Wm c (r.emb k) = w k) (f : OutBuf F) (S : Finset S1024x256.Idx) (hS : ∀ i ∈ S, f i = outT X Wm c i) :
    ∀ i ∈ r.set ∪ S, ((oM.access r).write (Elt F) f w Finset.univ : OutBuf F) i = outT X Wm c i := by
  intro i hi
  by_cases h : i ∈ r.set
  · rw [← Rect.map_emb_univ, Finset.mem_map] at h
    obtain ⟨k, -, rfl⟩ := h
    exact (View.write_emb_of_mem (v := oM.access r) (Val := Elt F) f w (Finset.mem_univ k)).trans (hw k).symm
  · have hn : i ∉ (oM.access r).setOn Finset.univ := by
      intro h'; exact h (by rw [← View.set_slice_whole cc0_stg2_0 r]; exact h')
    exact (View.write_of_not_mem (v := oM.access r) (Val := Elt F) f w Finset.univ hn).trans
      (hS i ((Finset.mem_union.mp hi).resolve_left h))

/-- Every output row is some block's. -/
theorem blocks_cover (c : Dev nD) (i : S1024x256.Idx) : ∃ b, i ∈ blockSet c b := by
  have hi0 := (i 0).isLt; have hi1 := (i 1).isLt
  have e0 : S1024x256.size 0 = 1024 := rfl
  have e1 : S1024x256.size 1 = 256 := rfl
  have hc := c.isLt
  by_cases h : (i 0).val / 256 = c.val
  · refine ⟨none, ?_⟩
    have hoff := own_off c
    show i ∈ (ownRect c).set
    rw [← Rect.map_emb_univ, Finset.mem_map]
    refine ⟨Shape.pair ⟨(i 0).val % 256, Nat.mod_lt _ (by decide)⟩ (i 1), Finset.mem_univ _, funext fun a => Fin.ext ?_⟩
    rw [Rect.emb_apply]
    fin_cases a
    · show k0_off1 c 0 + 1 * ((i 0).val % 256) = (i 0).val
      rw [hoff]; show 256 * c.val + _ = _; omega
    · show k0_off1 c 1 + 1 * (i 1).val = (i 1).val
      rw [hoff]; show 0 + _ = _; omega
  · have hsrc : ∀ (c o : Dev nD) (d : Bool), o ≠ c → ∃ h : Fin 3, ∀ q : Fin 4, orig c (Tr.dst (d, h, q)) = o := by decide +kernel
    have hlt : (i 0).val / 256 < nD := by show _ < 4; omega
    obtain ⟨hh, hq⟩ := hsrc c ⟨(i 0).val / 256, hlt⟩ (decide (128 ≤ (i 0).val % 256)) (fun e => h (congrArg Fin.val e))
    have hrow : row0 (decide (128 ≤ (i 0).val % 256)) ⟨(i 0).val % 128 / 32, by omega⟩ = (i 0).val % 256 - (i 0).val % 32 := by
      unfold row0
      by_cases hb : 128 ≤ (i 0).val % 256
      · rw [decide_eq_true hb]; show 128 * 1 + 32 * ((i 0).val % 128 / 32) = _; omega
      · rw [decide_eq_false hb]; show 128 * 0 + 32 * ((i 0).val % 128 / 32) = _; omega
    refine ⟨some (decide (128 ≤ (i 0).val % 256), hh, ⟨(i 0).val % 128 / 32, by omega⟩), ?_⟩
    show i ∈ (oRect c _).set
    rw [← Rect.map_emb_univ, Finset.mem_map]
    refine ⟨Shape.pair ⟨(i 0).val % 32, Nat.mod_lt _ (by decide)⟩ (i 1), Finset.mem_univ _, funext fun a => Fin.ext ?_⟩
    rw [Rect.emb_apply]
    fin_cases a
    · show poff c _ 0 + 1 * ((i 0).val % 32) = (i 0).val
      rw [poff_eq, hq]; show 256 * ((i 0).val / 256) + row0 _ _ + _ = _
      rw [hrow]; omega
    · show poff c _ 1 + 1 * (i 1).val = (i 1).val
      rw [poff_eq]; show 0 + _ = _; omega

end Cert.Ring

end
-- ==== Proof.Moves.lean ====
/-
# One step at a time

The state of a device between two steps (which copies have started, come back, arrived; which chunks it may send; which
output blocks are written), what the device holds in that state, and the proof, once per kind of step, that the step
takes what is held before to what is held after.
-/
module

public import proofs.«01_k».proof.Proof.Output

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : XBlk F) (Wm : WBlk F)

/-- Where a device is in its run. -/
structure St where
  /-- Copies not started. -/
  unsent : Finset Tr
  /-- Copies started whose source is not back. -/
  flying : Finset Tr
  /-- Copies whose source is back. -/
  acked : Finset Tr
  /-- Arrivals not waited for. -/
  due : Finset Tr
  /-- Arrivals waited for. -/
  got : Finset Tr
  /-- Chunks whose sending half is held. -/
  free : Finset Pl
  /-- Output blocks written. -/
  done : Finset (Option Tr)

/-- The state after a step; `none` when the step may not be taken. -/
def next (s : St) : Step → Option St
  | .send j => if j ∈ s.unsent ∧ j ∉ s.flying ∧ j.src ∈ s.free then
      some { s with unsent := s.unsent.erase j, flying := insert j s.flying, free := s.free.erase j.src } else none
  | .recv j => if j ∈ s.due ∧ j ∉ s.got ∧ j.dst ∉ s.free ∧ ∀ i ∈ s.unsent, j.2.1 < i.2.1 then
      some { s with due := s.due.erase j, got := insert j s.got, free := insert j.dst s.free } else none
  | .ack j => if j ∈ s.flying ∧ j ∉ s.acked ∧ j.src ∉ s.free ∧ s.unsent = ∅ then
      some { s with flying := s.flying.erase j, acked := insert j s.acked, free := insert j.src s.free } else none
  | .own => some { s with done := insert none s.done }
  | .comp j => if j ∈ s.got then some { s with done := insert (some j) s.done } else none

/-- The state after a list of steps. -/
def after (s : St) : List Step → Option St
  | [] => some s
  | a :: l => (next s a).bind fun s' => after s' l

/-- After the handshake: nothing started, the device's own chunks ready to go. -/
def first : St :=
  ⟨Finset.univ, ∅, ∅, Finset.univ, ∅, Finset.univ.filter fun p => p.2.1 = 0, ∅⟩

/-- At the end: everything sent, back and arrived, every block written. -/
def last : St :=
  ⟨∅, ∅, Finset.univ, ∅, Finset.univ, Finset.univ, insert none (Finset.univ.image some)⟩

/-- Whether a state is the last one, field by field. -/
def isLast (s : St) : Bool :=
  decide (s.unsent = ∅ ∧ s.flying = ∅ ∧ s.acked = Finset.univ ∧ s.due = ∅ ∧ s.got = Finset.univ ∧ s.free = Finset.univ
    ∧ s.done = insert none (Finset.univ.image some))

theorem isLast_after : (after first steps).any isLast = true := by decide +kernel

theorem after_steps : after first steps = some last := by
  have h := isLast_after
  cases hs : after first steps with
  | none => rw [hs] at h; cases h
  | some s =>
    rw [hs] at h
    obtain ⟨h1, h2, h3, h4, h5, h6, h7⟩ := of_decide_eq_true (show isLast s = true from h)
    cases s
    simp only at h1 h2 h3 h4 h5 h6 h7
    subst h1 h2 h3 h4 h5 h6 h7
    rfl

/-! ## What a device holds -/

/-- For a copy not started: both its duties, the landing slot at the neighbour, and the place in its own round. -/
def unsentRes (c : Dev nD) (j : Tr) : sProp 𝕄 :=
  iprop(dutyTok ER (gcell c (some (false, j))) 0 false ∗ dutyTok ER (gcell (nbr c j.1) (some (true, j))) 0 false
    ∗ (∃ Y, has (nbr c j.1) j.dst fullShare Y) ∗ atPos ER (gcell c (some (false, j))) 0 ∅ 0)
def flyingRes (c : Dev nD) (j : Tr) : sProp 𝕄 :=
  iprop(cred (tallyAt (gcell c (some (false, j))) () N) ∗ atPos ER (gcell c (some (false, j))) 0 ∅ 0)
def dueRes (c : Dev nD) (j : Tr) : sProp 𝕄 :=
  iprop(cred (tallyAt (gcell c (some (true, j))) () N) ∗ atPos ER (gcell c (some (true, j))) 0 ∅ 0)
def gotRes (c : Dev nD) (j : Tr) : sProp 𝕄 :=
  iprop(semVal (gcell c (some (true, j))) 0 ∗ has c j.dst fullShare.right (chunk X c j.dst))
def freeRes (c : Dev nD) (p : Pl) : sProp 𝕄 := has c p fullShare.left (chunk X c p)

/-- The output so far: right on the blocks written. -/
def outRes (c : Dev nD) (done : Finset (Option Tr)) : sProp 𝕄 :=
  iprop(∃ f : OutBuf F, ⌜∀ b ∈ done, ∀ i ∈ blockSet c b, f i = outT X Wm c i⌝ ∗ (((c : Thread nD τ).loc cc0_stg2_0) ↦{fullShare} f))

/-- The staged blocks the computations read. -/
def readRes (c : Dev nD) : sProp 𝕄 :=
  iprop((((c : Thread nD τ).loc cc0_stg0_0) ↦{fullShare.right} X c) ∗ (((c : Thread nD τ).loc cc0_stg1_0) ↦{fullShare} Wm c))

/-- All a device holds in a state. -/
def held (c : Dev nD) (s : St) : sProp 𝕄 :=
  iprop(bigSep s.unsent (unsentRes c) ∗ bigSep s.flying (flyingRes c)
    ∗ bigSep s.acked (fun j => semVal (gcell c (some (false, j))) 0) ∗ bigSep s.due (dueRes c) ∗ bigSep s.got (gotRes X c)
    ∗ bigSep s.free (freeRes X c) ∗ readRes X Wm c ∗ outRes X Wm c s.done ∗ ∃ W, owes (c : Thread nD τ) (owed c s.unsent) W)

/-- The invariants of all cells of all devices, and that each is in its round. -/
def records (K : Dev nD × Cell → ℕ) : sProp 𝕄 :=
  iprop((bigSep Finset.univ fun ck : Dev nD × Cell => cellInv ER (sched X) (K ck) (gcell ck.1 ck.2))
    ∗ bigSep Finset.univ fun ck : Dev nD × Cell => reached ER (gcell ck.1 ck.2) 0)

instance records_persistent (K : Dev nD × Cell → ℕ) : BI.Persistent (records X K) := by unfold records; infer_instance

theorem records_inv (K : Dev nD × Cell → ℕ) (c : Dev nD) (k : Cell) :
    records X K ⊢ cellInv ER (sched X) (K (c, k)) (gcell c k) := by
  unfold records
  iintro ⟨HI, -⟩
  iapply (show _ ⊢ _ from bigSep_elim (Φ := fun ck : Dev nD × Cell => (cellInv ER (sched X) (K ck) (gcell ck.1 ck.2) : sProp 𝕄)) (Finset.mem_univ (c, k)))
  iexact HI

theorem records_reached (K : Dev nD × Cell → ℕ) (c : Dev nD) (k : Cell) : records X K ⊢ reached ER (gcell c k) 0 := by
  unfold records
  iintro ⟨-, HR⟩
  iapply (show _ ⊢ _ from bigSep_elim (Φ := fun ck : Dev nD × Cell => (reached ER (gcell ck.1 ck.2) 0 : sProp 𝕄)) (Finset.mem_univ (c, k)))
  iexact HR

/-- Taking one member's resource out of a set's. -/
theorem take {I : Type} [DecidableEq I] {s : Finset I} {i : I} (h : i ∈ s) (Φ : I → sProp 𝕄) :
    bigSep s Φ ⊢ iprop(Φ i ∗ bigSep (s.erase i) Φ) := Entails.of_eq (bigSep_erase h)
/-- Putting a new member's resource into a set's. -/
theorem put {I : Type} [DecidableEq I] {s : Finset I} {i : I} (h : i ∉ s) (Φ : I → sProp 𝕄) :
    iprop(Φ i ∗ bigSep s Φ) ⊢ bigSep (insert i s) Φ := Entails.of_eq (bigSep_insert h).symm

abbrev 𝒱₀ : Variants := Variants.none

/-- The weakest precondition of a program of device `c`. -/
abbrev does (c : Dev nD) (p : Prog (TpuEff nD τ sig (Elt F) Λ₀ .tc) PUnit) (Ψ : PUnit.{1} → sProp 𝕄) : sProp 𝕄 :=
  wp frame (wpE (defs₀ (F := F)) 𝒱₀ (c : Thread nD τ) none) Set.univ p Ψ

variable (K : Dev nD × Cell → ℕ) (c : Dev nD) (k : Prog (TpuEff nD τ sig (Elt F) Λ₀ .tc) PUnit)

/-! ## The moves -/

/-- Starting a copy to `n`, the neighbour: half of the source and the landing slot go, the credit of the source's return
    comes. -/
theorem move_send (Ψ : PUnit.{1} → sProp 𝕄) (n : Dev nD) (j : Tr) (hn : n = nbr c j.1) (s : Finset Tr) (hj : j ∈ s) (W : Waits sig Unit) :
    iprop(records X K ∗ unsentRes c j ∗ freeRes X c j.src ∗ owes (c : Thread nD τ) (owed c s) W)
      ⊢ iprop((iprop(flyingRes c j ∗ owes (c : Thread nD τ) (owed c (s.erase j)) W) -∗ does c k Ψ)
        -∗ does c (.op (.enqueueDma (place j.src) (.remote (Dev.tc n) (place j.dst) (.dma (sSem j))) (.dma (rSem j))
            (place_wordExact j.src) (place_wordExact j.dst : (place j.dst).view.WordExact) ⟨⟨rfl, Or.inl rfl⟩, trivial⟩) fun _ => k) Ψ) := by
  subst hn
  unfold unsentRes freeRes flyingRes has owns
  iintro ⟨#HR, ⟨HtS, HtV, ⟨%Y, %fd, -, Hd⟩, Hat⟩, ⟨%fs, %hfs, Hs⟩, HO⟩ Hk
  iapply (Rounds.wp_send_pointsTo 𝒱₀ ER (sched X) (c : Thread nD τ) none (κ₁ := K (c, some (false, j)))
      (κ₂ := K (nbr c j.1, some (true, j))) (src := place j.src) (dst := place j.dst) (sS := .dma (sSem j)) (sem := .dma (rSem j))
      (c' := (nbr c j.1 : Thread nD τ)) (q := fullShare.left) (fs := fs) (fd := fd)
      (r₁ := 0) (r₂ := 0) (d₁ := false) (d₂ := false)
      (by rw [show (((c : Thread nD τ), SemLoc.dma (sSem j)) : GSem nD τ sig) = gcell c (some (false, j)) from rfl, duties_some]; exact Finset.mem_singleton_self _)
      (by rw [show (((nbr c j.1 : Thread nD τ), SemLoc.dma (rSem j)) : GSem nD τ sig) = gcell (nbr c j.1) (some (true, j)) from rfl, duties_some]; exact Finset.mem_singleton_self _)
      () () N (credit_eq j.dst) (amount_some X c (false, j) false) (amount_some X (nbr c j.1) (true, j) false) (owed c (s.erase j))
      (owed_erase c hj)
      (by
        refine BI.Entails.trans ?_ (Entails.of_eq (payload_eq X c (some (false, j)) false).symm)
        show _ ⊢ owns (c : Thread nD τ) (place j.src) fullShare.left (chunk X c j.src)
        rw [← hfs]; exact owns_intro _ _ _ _)
      (by
        refine BI.Entails.trans ?_ (Entails.of_eq (payload_eq X (nbr c j.1) (some (true, j)) false).symm)
        show _ ⊢ owns (nbr c j.1 : Thread nD τ) (place j.dst) fullShare (chunk X (nbr c j.1) j.dst)
        rw [chunk_step, ← hfs]
        refine (owns_intro _ _ _ _).trans (Entails.of_eq ?_)
        rw [View.read_write_univ])) $$ [Hs Hd HO HtS HtV]
  · isplitr; · iapply (records_inv X K c (some (false, j))); iexact HR
    isplitr; · iapply (records_inv X K (nbr c j.1) (some (true, j))); iexact HR
    isplitl [Hs]; · iexact Hs
    isplitl [Hd]; · iexact Hd
    isplitl [HO]; · iexact HO
    isplitl [HtS]; · iexact HtS
    isplitr; · iapply (records_reached X K c (some (false, j))); iexact HR
    isplitl [HtV]; · iexact HtV
    iapply (records_reached X K (nbr c j.1) (some (true, j))); iexact HR
  iintro ⟨Hc, HO⟩
  iapply Hk
  isplitr [HO]
  · isplitl [Hc]
    · iexact Hc
    · iexact Hat
  · iexact HO

/-- A wait on a cell of one duty: what the duty hands over comes, and the cell is closed at zero. -/
theorem move_wait (Ψ : PUnit.{1} → sProp 𝕄) (x : Bool × Tr) (s : Finset Tr) (W : Waits sig Unit)
    (hmay : (levAts L lv : sProp 𝕄) ⊢ MayWait (c : Thread nD τ) (csem (some x)) () (owed c s))
    {w : TpuEff nD τ sig (Elt F) Λ₀ .tc PUnit}
    (hw : ∀ R : PUnit.{1} → sProp 𝕄, wpE (defs₀ (F := F)) 𝒱₀ (c : Thread nD τ) none Set.univ w R
      = waitSpec (c : Thread nD τ) Set.univ (csem (some x)) N R) :
    iprop(records X K ∗ levAts L lv ∗ cred (tallyAt (gcell c (some x)) () N) ∗ atPos ER (gcell c (some x)) 0 ∅ 0
        ∗ owes (c : Thread nD τ) (owed c s) W)
      ⊢ iprop((iprop(pay X c (some x) false ∗ semVal (gcell c (some x)) 0
          ∗ owes (c : Thread nD τ) (owed c s) (insert (csem (some x), ()) W)) -∗ does c k Ψ)
        -∗ does c (.op w fun _ => k) Ψ) := by
  iintro ⟨#HR, #Hlev, Hc, Hat, HO⟩ Hk
  iapply (Rounds.wp_wait_rest_token 𝒱₀ ER (sched X) (c : Thread nD τ) none (κ := K (c, some x)) (sm := csem (some x)) (k' := N)
      hw (Set.mem_univ _) () (O := owed c s) (W := W) (R := 0) (m := 0) (T := ∅)
      (by rw [Nat.zero_add]; exact (expect_some X c x).symm)) $$ [Hc HO Hat]
  · isplitr; · iapply (records_inv X K c (some x)); iexact HR
    isplitl [Hc]; · iexact Hc
    isplitl [HO]; · iexact HO
    isplitr; · iapply hmay; iexact Hlev
    iexact Hat
  iintro ⟨HO, Hat, -, Hpay⟩
  ihave Hp := (Entails.of_eq (rest_some X c x)) $$ Hpay
  imod (Rounds.cell_close ER (sched X) (Set.mem_univ (K (c, some x))) (fun h => h) (R := 0 + 1) (duties_later X (gcell c (some x)))) $$ [Hat] with Hz
  · isplitr; · iapply (records_inv X K c (some x)); iexact HR
    iexact Hat
  iapply Hk
  isplitl [Hp]; · iexact Hp
  isplitl [Hz]; · iexact Hz
  iexact HO

/-- Reading a block of the output and storing its value there: one more block is right. -/
theorem move_out (Ψ : PUnit.{1} → sProp 𝕄) (r : Rect S1024x256) (w : r.shape.Idx → Elt F .f32)
    (hw : ∀ i, outT X Wm c (r.emb i) = w i) (b : Option Tr) (hb : blockSet c b = r.set) (D : Finset (Option Tr))
    {hl : (oM.view).LoadsAt r.toLoadRect} {hx : (oM.access r).Stores Finset.univ} {hm} :
    outRes X Wm c D ⊢ iprop((outRes X Wm c (insert b D) -∗ does c k Ψ)
      -∗ does c (.op (.load oM r.toLoadRect hl) fun _ => .op (.store oM r w Finset.univ hx hm) fun _ => k) Ψ) := by
  unfold outRes
  iintro ⟨%f, %hf, Ho⟩ Hk
  iapply (wp_load 𝒱₀ (c : Thread nD τ) none Set.univ (m := oM) (Finset.subset_univ _)) $$ Ho
  iintro Ho
  iapply (wp_store 𝒱₀ (c : Thread nD τ) none Set.univ (m := oM) (r := r) (Mk := Finset.univ) (Finset.subset_univ _)) $$ Ho
  iintro Ho
  iapply Hk
  iexists ((oM.access r).write (Elt F) f w Finset.univ : OutBuf F)
  isplitr
  · ipureintro
    intro b' hb' i hi
    refine agree_store X Wm c r w hw f (D.biUnion (blockSet c))
      (fun i hi => by obtain ⟨b'', h1, h2⟩ := Finset.mem_biUnion.mp hi; exact hf b'' h1 i h2) i ?_
    rcases Finset.mem_insert.mp hb' with rfl | h
    · exact Finset.mem_union_left _ (hb ▸ hi)
    · exact Finset.mem_union_right _ (Finset.mem_biUnion.mpr ⟨b', h, hi⟩)
  · iexact Ho

/-- The device's own rows. -/
theorem move_own (Ψ : PUnit.{1} → sProp 𝕄) (D : Finset (Option Tr)) :
    iprop(readRes X Wm c ∗ outRes X Wm c D)
      ⊢ iprop((iprop(readRes X Wm c ∗ outRes X Wm c (insert none D)) -∗ does c k Ψ) -∗ does c (exec c .own k) Ψ) := by
  unfold readRes exec
  iintro ⟨⟨Hx, Hw⟩, Ho⟩ Hk
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  rw [show (xM.view.readAt (Elt F) xAll.toLoadRect (X c)) = X c from
      Memref.readAt_unit_zero (Elt F) cc0_stg0_0 (by funext a; fin_cases a <;> rfl) _ (X c),
    show (wM.view.readAt (Elt F) wRect.toLoadRect (Wm c)) = Wm c from
      Memref.readAt_unit_zero (Elt F) cc0_stg1_0 (by funext a; fin_cases a <;> rfl) _ (Wm c)]
  iapply (move_out X Wm c k Ψ (ownRect c) (k0_pay1 (X c) (Wm c)) (outT_own X Wm c) none rfl D) $$ Ho
  iintro Ho
  iapply Hk
  isplitr [Ho]
  · isplitl [Hx]
    · iexact Hx
    · iexact Hw
  · iexact Ho

theorem place_dst (j : Tr) : place j.dst = slot j.1 j.2.1 j.2.2 := rfl

/-- What a computation loads from a landing slot is what the slot holds. -/
theorem load_slot (d : Bool) (h : Fin 3) (q : Fin 4) (f : (comm d).view.ref.ty.Contents (Elt F)) :
    k0_pay2 (((comm d).access (slotRect h q)).read (Elt F) f) = (slot d h q).view.read (Elt F) f := rfl

theorem slot_set (d : Bool) (h : Fin 3) (q : Fin 4) : ((comm d).access (slotRect h q)).set = (slot d h q).view.set :=
  (View.set_reshape _ _).symm

/-- Loading a landing slot, by the slot's own memory. -/
theorem wp_load_slot (Ψ : PUnit.{1} → sProp 𝕄) (d : Bool) (h : Fin 3) (q : Fin 4) {p : PosShare TreeShare}
    (f : Buf (Elt F) ((slot d h q).view.loc (c : Thread nD τ))) {hl : (comm d).view.LoadsAt (slotRect h q).toLoadRect}
    (g : ((slotRect h q).shape.Idx → Elt F .bf16) → Prog (TpuEff nD τ sig (Elt F) Λ₀ .tc) PUnit)
    (v : (slotRect h q).shape.Idx → Elt F .bf16) (hv : ((comm d).access (slotRect h q)).read (Elt F) f = v) :
    ((slot d h q).view.loc (c : Thread nD τ) ↦[(slot d h q).view.set]{p} f)
      ⊢ iprop((((slot d h q).view.loc (c : Thread nD τ) ↦[(slot d h q).view.set]{p} f)
          -∗ does c (g v) Ψ)
        -∗ does c (.op (.load (comm d) (slotRect h q).toLoadRect hl) g) Ψ) :=
  hv ▸ wp_load_rect 𝒱₀ (c : Thread nD τ) none Set.univ (m := comm d) (r := slotRect h q) (subset_of_eq (slot_set d h q))

/-- A landed chunk's rows. -/
theorem move_comp (Ψ : PUnit.{1} → sProp 𝕄) (j : Tr) (D : Finset (Option Tr)) :
    iprop(gotRes X c j ∗ readRes X Wm c ∗ outRes X Wm c D)
      ⊢ iprop((iprop(gotRes X c j ∗ readRes X Wm c ∗ outRes X Wm c (insert (some j) D)) -∗ does c k Ψ)
        -∗ does c (exec c (.comp j) k) Ψ) := by
  unfold gotRes readRes exec has owns
  rw [place_dst]
  iintro ⟨⟨Hz, %f, %hf, Hc⟩, ⟨Hx, Hw⟩, Ho⟩ Hk
  obtain ⟨v, hv, hv'⟩ : ∃ v, ((comm j.1).access (slotRect j.2.1 j.2.2)).read (Elt F) f = v ∧ k0_pay2 v = chunk X c j.dst :=
    ⟨_, rfl, (load_slot _ _ _ f).trans hf⟩
  iapply (wp_load_slot c Ψ j.1 j.2.1 j.2.2 f _ v hv) $$ Hc
  iintro Hc
  iapply (wp_load 𝒱₀ (c : Thread nD τ) none Set.univ (m := wM) (Finset.subset_univ _)) $$ Hw
  iintro Hw
  rw [hv',
    show (wM.view.readAt (Elt F) wRect.toLoadRect (Wm c)) = Wm c from
      Memref.readAt_unit_zero (Elt F) cc0_stg1_0 (by funext a; fin_cases a <;> rfl) _ (Wm c)]
  iapply (move_out X Wm c k Ψ (oRect c j) (k0_pay3 (chunk X c j.dst) (Wm c)) (outT_comp X Wm c j) (some j) rfl D) $$ Ho
  iintro Ho
  iapply Hk
  isplitl [Hz Hc]
  · isplitl [Hz]; · iexact Hz
    iexists f
    isplitr; · ipureintro; exact hf
    iexact Hc
  isplitr [Ho]
  · isplitl [Hx]
    · iexact Hx
    · iexact Hw
  · iexact Ho

end Cert.Ring

end
-- ==== Proof.Walk.lean ====
/-
# The whole list of steps

Each step takes what a device holds in one state to what it holds in the next; hence the whole list does.
-/
module

public import proofs.«01_k».proof.Proof.Moves

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : XBlk F) (Wm : WBlk F) (K : Dev nD × Cell → ℕ) (c : Dev nD)
  (k : Prog (TpuEff nD τ sig (Elt F) Λ₀ .tc) PUnit)

/-- One step is sound from a state: what is held there suffices, given that what is held next suffices for the rest. -/
def Sound (a : Step) (s s' : St) : Prop :=
  ∀ Ψ : PUnit.{1} → sProp 𝕄, iprop(records X K ∗ levAts L lv ∗ held X Wm c s)
    ⊢ iprop((held X Wm c s' -∗ does c k Ψ) -∗ does c (exec c a k) Ψ)

theorem sound_send (j : Tr) (s : St) (h1 : j ∈ s.unsent) (h2 : j ∉ s.flying) (h3 : j.src ∈ s.free) :
    Sound X Wm K c k (.send j) s
      { s with unsent := s.unsent.erase j, flying := insert j s.flying, free := s.free.erase j.src } := by
  intro Ψ
  unfold held exec
  iintro ⟨#HR, #Hlev, HU, HF, HA, HD, HG, HP, HX, HY, %W, HO⟩ Hk
  ihave H := (take h1 (unsentRes (F := F) c)) $$ HU
  icases H with ⟨Hu, HU⟩
  ihave H := (take h3 (freeRes X c)) $$ HP
  icases H with ⟨Hp, HP⟩
  iapply (move_send X K c k Ψ (pdev c j.1) j (pdev_eq c j.1) s.unsent h1 W) $$ [Hu Hp HO]
  · isplitr; · iexact HR
    isplitl [Hu]; · iexact Hu
    isplitl [Hp]; · iexact Hp
    iexact HO
  iintro ⟨Hf, HO⟩
  iapply Hk
  isplitl [HU]; · iexact HU
  isplitl [Hf HF]
  · iapply (put h2 (flyingRes (F := F) c))
    isplitl [Hf]
    · iexact Hf
    · iexact HF
  isplitl [HA]; · iexact HA
  isplitl [HD]; · iexact HD
  isplitl [HG]; · iexact HG
  isplitl [HP]; · iexact HP
  isplitl [HX]; · iexact HX
  isplitl [HY]; · iexact HY
  iexists W
  iexact HO

theorem sound_recv (j : Tr) (s : St) (h1 : j ∈ s.due) (h2 : j ∉ s.got) (h3 : j.dst ∉ s.free) (h4 : ∀ i ∈ s.unsent, j.2.1 < i.2.1) :
    Sound X Wm K c k (.recv j) s
      { s with due := s.due.erase j, got := insert j s.got, free := insert j.dst s.free } := by
  intro Ψ
  unfold held exec
  iintro ⟨#HR, #Hlev, HU, HF, HA, HD, HG, HP, HX, HY, %W, HO⟩ Hk
  ihave H := (take h1 (dueRes (F := F) c)) $$ HD
  icases H with ⟨Hd, HD⟩
  ihave Hd := (show dueRes (F := F) c j ⊢ iprop(cred (tallyAt (gcell c (some (true, j))) () N) ∗ atPos ER (gcell c (some (true, j))) 0 ∅ 0)
    from Entails.rfl) $$ Hd
  icases Hd with ⟨Hc, Hat⟩
  iapply (move_wait X K c k Ψ (true, j) s.unsent W
      (mayWait_of c (csem (some (true, j))) (2 + j.2.1.val) s.unsent (le_of_eq (lv_recv c j))
        (fun i hi => Nat.add_lt_add_left (h4 i hi) 2))
      (fun R => (wpE_waitDma2_eq 𝒱₀ (c : Thread nD τ) none Set.univ R).trans (by rw [credit_eq]; rfl))) $$ [Hc Hat HO]
  · isplitr; · iexact HR
    isplitr; · iexact Hlev
    isplitl [Hc]; · iexact Hc
    isplitl [Hat]; · iexact Hat
    iexact HO
  iintro ⟨Hp, Hz, HO⟩
  ihave H := (show pay X c (some (true, j)) false ⊢ iprop(has c j.dst fullShare.left (chunk X c j.dst) ∗ has c j.dst fullShare.right (chunk X c j.dst))
    from (owns_share (c : Thread nD τ) (place j.dst) (PosShare.mem_left_op_right fullShare) (chunk X c j.dst)).1) $$ Hp
  icases H with ⟨Hl, Hr⟩
  iapply Hk
  isplitl [HU]; · iexact HU
  isplitl [HF]; · iexact HF
  isplitl [HA]; · iexact HA
  isplitl [HD]; · iexact HD
  isplitl [Hz Hr HG]
  · iapply (put h2 (gotRes X c))
    isplitr [HG]
    · unfold gotRes
      isplitl [Hz]
      · iexact Hz
      · iexact Hr
    · iexact HG
  isplitl [Hl HP]
  · iapply (put h3 (freeRes X c))
    isplitl [Hl]
    · iapply (show has c j.dst fullShare.left (chunk X c j.dst) ⊢ freeRes X c j.dst from Entails.rfl); iexact Hl
    · iexact HP
  isplitl [HX]; · iexact HX
  isplitl [HY]; · iexact HY
  iexists _
  iexact HO

theorem sound_ack (j : Tr) (s : St) (h1 : j ∈ s.flying) (h2 : j ∉ s.acked) (h3 : j.src ∉ s.free) (h4 : s.unsent = ∅) :
    Sound X Wm K c k (.ack j) s
      { s with flying := s.flying.erase j, acked := insert j s.acked, free := insert j.src s.free } := by
  intro Ψ
  unfold held exec
  iintro ⟨#HR, #Hlev, HU, HF, HA, HD, HG, HP, HX, HY, %W, HO⟩ Hk
  ihave H := (take h1 (flyingRes (F := F) c)) $$ HF
  icases H with ⟨Hd, HF⟩
  ihave Hd := (show flyingRes (F := F) c j ⊢ iprop(cred (tallyAt (gcell c (some (false, j))) () N) ∗ atPos ER (gcell c (some (false, j))) 0 ∅ 0)
    from Entails.rfl) $$ Hd
  icases Hd with ⟨Hc, Hat⟩
  iapply (move_wait X K c k Ψ (false, j) s.unsent W
      (mayWait_of c (csem (some (false, j))) _ s.unsent le_rfl
        (fun i hi => by rw [h4] at hi; exact absurd hi (Finset.notMem_empty i)))
      (fun R => (wpE_waitDma2_eq 𝒱₀ (c : Thread nD τ) none Set.univ R).trans (by rw [credit_eq]; rfl))) $$ [Hc Hat HO]
  · isplitr; · iexact HR
    isplitr; · iexact Hlev
    isplitl [Hc]; · iexact Hc
    isplitl [Hat]; · iexact Hat
    iexact HO
  iintro ⟨Hp, Hz, HO⟩
  iapply Hk
  isplitl [HU]; · iexact HU
  isplitl [HF]; · iexact HF
  isplitl [Hz HA]
  · iapply (put h2 fun j => (semVal (gcell c (some (false, j))) 0 : sProp 𝕄))
    isplitl [Hz]
    · iexact Hz
    · iexact HA
  isplitl [HD]; · iexact HD
  isplitl [HG]; · iexact HG
  isplitl [Hp HP]
  · iapply (put h3 (freeRes X c))
    isplitl [Hp]
    · iapply (show pay X c (some (false, j)) false ⊢ freeRes X c j.src from Entails.rfl); iexact Hp
    · iexact HP
  isplitl [HX]; · iexact HX
  isplitl [HY]; · iexact HY
  iexists _
  iexact HO

theorem sound_own (s : St) : Sound X Wm K c k .own s { s with done := insert none s.done } := by
  intro Ψ
  unfold held
  iintro ⟨#HR, #Hlev, HU, HF, HA, HD, HG, HP, HX, HY, HO⟩ Hk
  iapply (move_own X Wm c k Ψ s.done) $$ [HX HY]
  · isplitl [HX]
    · iexact HX
    · iexact HY
  iintro ⟨HX, HY⟩
  iapply Hk
  isplitl [HU]; · iexact HU
  isplitl [HF]; · iexact HF
  isplitl [HA]; · iexact HA
  isplitl [HD]; · iexact HD
  isplitl [HG]; · iexact HG
  isplitl [HP]; · iexact HP
  isplitl [HX]; · iexact HX
  isplitl [HY]; · iexact HY
  iexact HO

theorem sound_comp (j : Tr) (s : St) (h1 : j ∈ s.got) :
    Sound X Wm K c k (.comp j) s { s with done := insert (some j) s.done } := by
  intro Ψ
  unfold held
  iintro ⟨#HR, #Hlev, HU, HF, HA, HD, HG, HP, HX, HY, HO⟩ Hk
  ihave H := (take h1 (gotRes X c)) $$ HG
  icases H with ⟨Hg, HG⟩
  iapply (move_comp X Wm c k Ψ j s.done) $$ [Hg HX HY]
  · isplitl [Hg]; · iexact Hg
    isplitl [HX]
    · iexact HX
    · iexact HY
  iintro ⟨Hg, HX, HY⟩
  iapply Hk
  isplitl [HU]; · iexact HU
  isplitl [HF]; · iexact HF
  isplitl [HA]; · iexact HA
  isplitl [HD]; · iexact HD
  isplitl [Hg HG]
  · iapply (Entails.of_eq (bigSep_erase h1).symm : iprop(gotRes X c j ∗ bigSep (s.got.erase j) (gotRes X c)) ⊢ bigSep s.got (gotRes X c))
    isplitl [Hg]
    · iexact Hg
    · iexact HG
  isplitl [HP]; · iexact HP
  isplitl [HX]; · iexact HX
  isplitl [HY]; · iexact HY
  iexact HO

/-- Every step the state allows is sound. -/
theorem sound (a : Step) (s s' : St) (h : next s a = some s') : Sound X Wm K c k a s s' := by
  cases a with
  | send j =>
    by_cases hc : j ∈ s.unsent ∧ j ∉ s.flying ∧ j.src ∈ s.free
    · rw [next, if_pos hc] at h; cases h; exact sound_send X Wm K c k j s hc.1 hc.2.1 hc.2.2
    · rw [next, if_neg hc] at h; cases h
  | recv j =>
    by_cases hc : j ∈ s.due ∧ j ∉ s.got ∧ j.dst ∉ s.free ∧ ∀ i ∈ s.unsent, j.2.1 < i.2.1
    · rw [next, if_pos hc] at h; cases h; exact sound_recv X Wm K c k j s hc.1 hc.2.1 hc.2.2.1 hc.2.2.2
    · rw [next, if_neg hc] at h; cases h
  | ack j =>
    by_cases hc : j ∈ s.flying ∧ j ∉ s.acked ∧ j.src ∉ s.free ∧ s.unsent = ∅
    · rw [next, if_pos hc] at h; cases h; exact sound_ack X Wm K c k j s hc.1 hc.2.1 hc.2.2.1 hc.2.2.2
    · rw [next, if_neg hc] at h; cases h
  | own => cases h; exact sound_own X Wm K c k s
  | comp j =>
    by_cases hc : j ∈ s.got
    · rw [next, if_pos hc] at h; cases h; exact sound_comp X Wm K c k j s hc
    · rw [next, if_neg hc] at h; cases h

/-- A list of steps leads from what is held in its first state to what is held in its last. -/
theorem walk (Ψ : PUnit.{1} → sProp 𝕄) (l : List Step) (s s' : St) (h : after s l = some s') :
    iprop(records X K ∗ levAts L lv ∗ held X Wm c s) ⊢ iprop((held X Wm c s' -∗ Ψ ⟨⟩) -∗ does c (run c l) Ψ) := by
  induction l generalizing s with
  | nil =>
    cases h
    unfold run
    iintro ⟨-, -, H⟩ Hk
    unfold does
    rw [wp_ret]
    imodintro
    iapply Hk
    iexact H
  | cons a l ih =>
    obtain ⟨m, hm, hl⟩ := Option.bind_eq_some_iff.mp h
    unfold run
    iintro ⟨#HR, #Hlev, H⟩ Hk
    iapply (sound X Wm K c (run c l) a s m hm Ψ) $$ [H]
    · isplitr; · iexact HR
      isplitr; · iexact Hlev
      iexact H
    iintro H
    iapply (ih m hl) $$ [H]
    · isplitr; · iexact HR
      isplitr; · iexact Hlev
      iexact H
    iexact Hk

/-- The body's steps, from after the handshake to the end. -/
theorem walk_steps (Ψ : PUnit.{1} → sProp 𝕄) : iprop(records X K ∗ levAts L lv ∗ held X Wm c first)
    ⊢ iprop((held X Wm c last -∗ Ψ ⟨⟩) -∗ does c (run c steps) Ψ) := walk X Wm K c Ψ steps first last after_steps

end Cert.Ring

end
-- ==== Proof.Memory.lean ====
/-
# Splitting the buffers into chunks

The landing buffers are their twelve slots each, and half of the staged `x` block is its eight chunks.
-/
module

public import proofs.«01_k».proof.Proof.Moves
public import Idealize.ShloMosaic.Lib.Ring

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Landing buffers -/

theorem slotRect_disjoint (a b : Fin 3 × Fin 4) (h : a ≠ b) : Disjoint (slotRect a.1 a.2).set (slotRect b.1 b.2).set := by
  rw [Finset.disjoint_left]
  intro i ha hb
  rw [Rect.mem_set_unit] at ha hb
  have a0 := ha 0; have a1 := ha 1; have b0 := hb 0; have b1 := hb 1
  have e0 : S1x32x1024.size 0 = 1 := rfl
  have e1 : S1x32x1024.size 1 = 32 := rfl
  rw [e0] at a0 b0
  rw [e1] at a1 b1
  replace a0 : a.1.val ≤ (i 0 : ℕ) ∧ (i 0 : ℕ) < a.1.val + 1 := a0
  replace b0 : b.1.val ≤ (i 0 : ℕ) ∧ (i 0 : ℕ) < b.1.val + 1 := b0
  replace a1 : 32 * a.2.val ≤ (i 1 : ℕ) ∧ (i 1 : ℕ) < 32 * a.2.val + 32 := a1
  replace b1 : 32 * b.2.val ≤ (i 1 : ℕ) ∧ (i 1 : ℕ) < 32 * b.2.val + 32 := b1
  exact h (Prod.ext (Fin.ext (by omega)) (Fin.ext (by omega)))

theorem slotRect_cover : (Finset.univ : Finset (Fin 3 × Fin 4)).biUnion (fun a => (slotRect a.1 a.2).set) = Finset.univ := by
  refine Finset.eq_univ_iff_forall.mpr fun i => Finset.mem_biUnion.mpr ?_
  have h0 : (i 0 : ℕ) < 3 := (i 0).isLt
  have h1 : (i 1 : ℕ) < 128 := (i 1).isLt
  have h2 : (i 2 : ℕ) < 1024 := (i 2).isLt
  refine ⟨(⟨(i 0 : ℕ), h0⟩, ⟨(i 1 : ℕ) / 32, by omega⟩), Finset.mem_univ _, Rect.mem_set_unit.mpr fun a => ?_⟩
  fin_cases a
  · show (i 0 : ℕ) ≤ (i 0 : ℕ) ∧ (i 0 : ℕ) < (i 0 : ℕ) + 1; omega
  · show 32 * ((i 1 : ℕ) / 32) ≤ (i 1 : ℕ) ∧ (i 1 : ℕ) < 32 * ((i 1 : ℕ) / 32) + 32; omega
  · show 0 ≤ (i 2 : ℕ) ∧ (i 2 : ℕ) < 0 + 1024; omega

/-- A slot's elements of its landing buffer. -/
def slotSet (c : Dev nD) (d : Bool) (hq : Fin 3 × Fin 4) : Finset (Idx ((comm d).view.loc (c : Thread nD τ))) :=
  (slot d hq.1 hq.2).view.set

theorem slotSet_disjoint (c : Dev nD) (d : Bool) (a b : Fin 3 × Fin 4) (h : a ≠ b) : Disjoint (slotSet c d a) (slotSet c d b) := by
  have e : ∀ b : Ref sig .tc, ∀ r : Rect b.ty.shape, ((View.whole b).slice r).set = r.set := fun b r => View.set_slice_whole b r
  cases d
  · have ea := (slot_set false a.1 a.2).symm.trans (e cc0_scratch0 _)
    have eb := (slot_set false b.1 b.2).symm.trans (e cc0_scratch0 _)
    exact (congrArg₂ Disjoint ea eb).mpr (slotRect_disjoint a b h)
  · have ea := (slot_set true a.1 a.2).symm.trans (e cc0_scratch1 _)
    have eb := (slot_set true b.1 b.2).symm.trans (e cc0_scratch1 _)
    exact (congrArg₂ Disjoint ea eb).mpr (slotRect_disjoint a b h)

theorem slotSet_cover (c : Dev nD) (d : Bool) : Finset.univ.biUnion (slotSet c d) = Finset.univ := by
  have e : ∀ b : Ref sig .tc, ∀ r : Rect b.ty.shape, ((View.whole b).slice r).set = r.set := fun b r => View.set_slice_whole b r
  cases d
  · refine (Finset.biUnion_congr rfl fun a _ => ?_).trans slotRect_cover
    unfold slotSet; rw [← slot_set]; exact e _ _
  · refine (Finset.biUnion_congr rfl fun a _ => ?_).trans slotRect_cover
    unfold slotSet; rw [← slot_set]; exact e _ _

/-- A slot's elements are the slot at some contents. -/
theorem slot_some (c : Dev nD) (d : Bool) (h : Fin 3) (q : Fin 4) (f : Buf (Elt F) ((slot d h q).view.loc (c : Thread nD τ))) :
    ((slot d h q).view.loc (c : Thread nD τ) ↦[(slot d h q).view.set]{fullShare} f : sProp 𝕄)
      ⊢ iprop(∃ Y, owns (c : Thread nD τ) (slot d h q) fullShare Y) := by
  unfold owns
  iintro H
  iexists ((slot d h q).view.read (Elt F) f)
  iexists f
  isplitr; · ipureintro; rfl
  iexact H

/-- A landing buffer is its slots. -/
theorem comm_split (c : Dev nD) (d : Bool) (f : Buf (Elt F) ((comm d).view.loc (c : Thread nD τ))) :
    ((comm d).view.loc (c : Thread nD τ) ↦{fullShare} f : sProp 𝕄)
      ⊢ bigSep Finset.univ fun hq : Fin 3 × Fin 4 => iprop(∃ Y, has c (Tr.dst (d, hq)) fullShare Y) := by
  rw [Ring.pointsTo_blocks (slotSet c d) (slotSet_disjoint c d) (slotSet_cover c d) f]
  refine bigSep_mono fun hq _ => ?_
  exact slot_some c d hq.1 hq.2 f

/-- Slots held at any contents are the landing buffer at some contents. -/
theorem comm_join (c : Dev nD) (d : Bool) (f₀ : Buf (Elt F) ((comm d).view.loc (c : Thread nD τ))) :
    (bigSep Finset.univ fun hq : Fin 3 × Fin 4 => iprop(∃ Y, has c (Tr.dst (d, hq)) fullShare Y) : sProp 𝕄)
      ⊢ iprop(∃ f : Buf (Elt F) ((comm d).view.loc (c : Thread nD τ)), (comm d).view.loc (c : Thread nD τ) ↦{fullShare} f) := by
  refine BI.Entails.trans (bigSep_mono fun hq _ => ?_)
    (Ring.pointsTo_blocks_join_exists (slotSet c d) (slotSet_disjoint c d) (slotSet_cover c d) f₀)
  show iprop(∃ Y, owns (c : Thread nD τ) (slot d hq.1 hq.2) fullShare Y) ⊢ _
  unfold owns
  iintro ⟨%Y, %f, -, H⟩
  iexists f
  iexact H

/-! ## The staged block of `x` -/

theorem xRect_disjoint (a b : Bool × Fin 4) (h : a ≠ b) : Disjoint (xRect a.1 a.2).set (xRect b.1 b.2).set := by
  rw [Finset.disjoint_left]
  intro i ha hb
  rw [Rect.mem_set_unit] at ha hb
  have a0 : row0 a.1 a.2 ≤ (i 0 : ℕ) ∧ (i 0 : ℕ) < row0 a.1 a.2 + 32 := ha 0
  have b0 : row0 b.1 b.2 ≤ (i 0 : ℕ) ∧ (i 0 : ℕ) < row0 b.1 b.2 + 32 := hb 0
  have hr : ∀ a b : Bool × Fin 4, row0 a.1 a.2 = row0 b.1 b.2 → a = b := by decide
  have hm : ∀ a : Bool × Fin 4, row0 a.1 a.2 % 32 = 0 := by decide
  have ma := hm a; have mb := hm b
  exact h (hr a b (by omega))

theorem xRect_cover : (Finset.univ : Finset (Bool × Fin 4)).biUnion (fun a => (xRect a.1 a.2).set) = Finset.univ := by
  refine Finset.eq_univ_iff_forall.mpr fun i => Finset.mem_biUnion.mpr ?_
  have h0 : (i 0 : ℕ) < 256 := (i 0).isLt
  have h1 : (i 1 : ℕ) < 1024 := (i 1).isLt
  have hr : ∀ n : Fin 8, ∃ a : Bool × Fin 4, row0 a.1 a.2 = 32 * n.val := by decide
  obtain ⟨a, ha⟩ := hr ⟨(i 0 : ℕ) / 32, by omega⟩
  replace ha : row0 a.1 a.2 = 32 * ((i 0 : ℕ) / 32) := ha
  refine ⟨a, Finset.mem_univ _, Rect.mem_set_unit.mpr fun k => ?_⟩
  fin_cases k
  · show row0 a.1 a.2 ≤ (i 0 : ℕ) ∧ (i 0 : ℕ) < row0 a.1 a.2 + 32; omega
  · show 0 ≤ (i 1 : ℕ) ∧ (i 1 : ℕ) < 0 + 1024; omega

variable (X : XBlk F)

/-- The chunk of a device's own rows. -/
def own0 (a : Bool × Fin 4) : Pl := (a.1, 0, a.2)

theorem own0_injective : Function.Injective own0 := by decide
/-- The device's own chunks. -/
theorem own0_map : Finset.univ.filter (fun p : Pl => p.2.1 = 0) = Finset.univ.map ⟨own0, own0_injective⟩ := by decide +kernel

theorem orig_own (c : Dev nD) (a : Bool × Fin 4) : orig c (own0 a) = c := by revert c a; decide

/-- The left half of the staged block is the left halves of the device's own chunks. -/
theorem x_split (c : Dev nD) : (((c : Thread nD τ).loc cc0_stg0_0) ↦{fullShare.left} X c : sProp 𝕄)
    ⊢ bigSep Finset.univ fun a : Bool × Fin 4 => freeRes X c (own0 a) := by
  have h0 : (((c : Thread nD τ).loc cc0_stg0_0) ↦{fullShare.left} X c : sProp 𝕄)
      ⊢ owns (c : Thread nD τ) xM fullShare.left (X c) := by
    unfold owns
    rw [Memref.view_whole, View.set_whole]
    iintro H
    iexists (X c)
    isplitr; · ipureintro; rfl
    iexact H
  refine h0.trans ((owns_rects (c : Thread nD τ) xM fullShare.left (fun a : Bool × Fin 4 => xRect a.1 a.2) (fun _ _ => rfl) xRect_disjoint xRect_cover (X c)).trans ?_)
  refine Entails.of_eq (bigSep_congr fun a _ => ?_)
  unfold freeRes chunk
  rw [orig_own]; rfl

/-- And back. -/
theorem x_join (c : Dev nD) : (bigSep Finset.univ fun a : Bool × Fin 4 => freeRes X c (own0 a) : sProp 𝕄)
    ⊢ (((c : Thread nD τ).loc cc0_stg0_0) ↦{fullShare.left} X c : sProp 𝕄) := by
  have h0 : owns (c : Thread nD τ) xM fullShare.left (X c)
      ⊢ (((c : Thread nD τ).loc cc0_stg0_0) ↦{fullShare.left} X c : sProp 𝕄) := by
    unfold owns
    rw [Memref.view_whole, View.set_whole]
    iintro ⟨%f, %hf, H⟩
    have hf' : f = X c := hf
    subst hf'
    iexact H
  refine BIBase.Entails.trans ?_ ((owns_of_rects (c : Thread nD τ) xM fullShare.left (fun a : Bool × Fin 4 => xRect a.1 a.2) (fun _ _ => rfl) xRect_disjoint xRect_cover (X c)).trans h0)
  refine Entails.of_eq (bigSep_congr fun a _ => ?_)
  unfold freeRes chunk
  rw [orig_own]; rfl

end Cert.Ring

end
-- ==== Proof.Body.lean ====
/-
# The body

From what the launch gives a device, through the handshake and the steps, to the whole output and every cell closed.
-/
module

public import proofs.«01_k».proof.Proof.Walk
public import proofs.«01_k».proof.Proof.Memory

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the cells, the copies and the chunks -/

theorem bool_split (Φ : Bool → sProp 𝕄) : bigSep Finset.univ Φ = iprop(Φ false ∗ Φ true) := by
  rw [bigSep_univ_eq_bigSepL [false, true] (by decide) (by decide), bigSepL_cons_cons, bigSepL_singleton]
  rfl

/-- A family over a device's cells: the handshake's, the senders', the receivers'. -/
theorem cells_split (Φ : Cell → sProp 𝕄) : bigSep Finset.univ Φ
    = iprop(Φ none ∗ bigSep Finset.univ (fun j : Tr => Φ (some (false, j))) ∗ bigSep Finset.univ fun j : Tr => Φ (some (true, j))) := by
  have hu : (Finset.univ : Finset Cell) = insert none (Finset.univ.map Function.Embedding.some) := by decide +kernel
  rw [hu, bigSep_insert (by decide +kernel), bigSep_map, bigSep_univ_prod, bool_split]
  rfl

/-- A family over the copies: one direction's, the other's. -/
theorem copies_split (Φ : Tr → sProp 𝕄) : bigSep Finset.univ Φ
    = iprop(bigSep Finset.univ (fun hq : Fin 3 × Fin 4 => Φ (false, hq)) ∗ bigSep Finset.univ fun hq : Fin 3 × Fin 4 => Φ (true, hq)) := by
  rw [bigSep_univ_prod, bool_split]

theorem dst_injective : Function.Injective Tr.dst := by decide +kernel
theorem chunks_univ : (Finset.univ : Finset Pl) = Finset.univ.map ⟨own0, own0_injective⟩ ∪ Finset.univ.map ⟨Tr.dst, dst_injective⟩ := by
  decide +kernel
theorem chunks_disjoint : Disjoint (Finset.univ.map ⟨own0, own0_injective⟩) (Finset.univ.map ⟨Tr.dst, dst_injective⟩) := by
  decide +kernel

/-- A family over the chunks: the device's own, and where the copies land. -/
theorem chunks_split (Φ : Pl → sProp 𝕄) : bigSep Finset.univ Φ
    = iprop(bigSep Finset.univ (fun a : Bool × Fin 4 => Φ (own0 a)) ∗ bigSep Finset.univ fun j : Tr => Φ j.dst) := by
  rw [chunks_univ, bigSep_union chunks_disjoint, bigSep_map, bigSep_map]
  rfl

variable (X : XBlk F) (Wm : WBlk F)

/-! ## Before and after -/

/-- The duties device `c` pays: its neighbours' handshakes, and for each copy the source's return and the landing. -/
def payToks (c : Dev nD) : sProp 𝕄 :=
  iprop(dutyTok ER (gcell (nbr c true) none) 0 false ∗ dutyTok ER (gcell (nbr c false) none) 0 true
    ∗ bigSep Finset.univ (fun j : Tr => dutyTok ER (gcell c (some (false, j))) 0 false)
    ∗ bigSep Finset.univ fun j : Tr => dutyTok ER (gcell (nbr c j.1) (some (true, j))) 0 false)

/-- What a device has of the rounds: its place in each of its cells, and the duties it pays. -/
def linear (c : Dev nD) : sProp 𝕄 :=
  iprop((bigSep Finset.univ fun k : Cell => atPos ER (gcell c k) 0 ∅ 0) ∗ payToks c)

/-- The credits a device is launched with: its handshake's and its receivers'. -/
def credits (c : Dev nD) : sProp 𝕄 :=
  iprop(cred (tallyAt (gcell c none) () 2) ∗ bigSep Finset.univ fun j : Tr => cred (tallyAt (gcell c (some (true, j))) () N))

/-- The landing buffers at some contents. -/
def landing (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the body starts from besides the staged blocks. -/
def start (c : Dev nD) : sProp 𝕄 := iprop((∃ K, records X K ∗ linear c) ∗ credits c ∗ levAts L lv)

/-- What the body ends with besides the staged blocks: every cell closed at zero, the landing buffers. -/
def ended (c : Dev nD) : sProp 𝕄 := iprop((bigSep Finset.univ fun k : Cell => semVal (gcell c k) 0) ∗ landing c)

/-- The three staged blocks. -/
def staged (c : Dev nD) (o : OutBuf F) : sProp 𝕄 :=
  iprop((((c : Thread nD τ).loc cc0_stg0_0) ↦{fullShare} X c) ∗ (((c : Thread nD τ).loc cc0_stg1_0) ↦{fullShare} Wm c)
    ∗ (((c : Thread nD τ).loc cc0_stg2_0) ↦{fullShare} o))

/-- The halves of a landed chunk are the chunk. -/
theorem halves (c : Dev nD) (j : Tr) : iprop(freeRes X c j.dst ∗ has c j.dst fullShare.right (chunk X c j.dst))
    ⊢ iprop(∃ Y, has c j.dst fullShare Y) := by
  unfold freeRes
  iintro H
  iexists (chunk X c j.dst)
  iapply (owns_share (c : Thread nD τ) (place j.dst) (PosShare.mem_left_op_right fullShare) (chunk X c j.dst)).2
  iexact H

/-- What the handshake's duty of direction `d` hands over. -/
theorem pay_bar (c : Dev nD) (d : Bool) : pay X c none d
    = (bigSep Finset.univ fun hq : Fin 3 × Fin 4 => (iprop(∃ Y, has (nbr c d) (Tr.dst (d, hq)) fullShare Y) : sProp 𝕄)) := rfl

/-- A device's landing slots of one direction are what its signal to the neighbour on the other side hands over. -/
theorem hand_over (c : Dev nD) (d e : Bool) (h : nbr (nbr c e) d = c) :
    (bigSep Finset.univ fun hq : Fin 3 × Fin 4 => (iprop(∃ Y, has c (Tr.dst (d, hq)) fullShare Y) : sProp 𝕄))
      ⊢ (sched X).payload ((nbr c e : Thread nD τ), SemLoc.reg bar) 0 d := by
  show _ ⊢ (sched X).payload (gcell (nbr c e) none) 0 d
  rw [payload_eq, pay_bar, h]

/-- What is held in the last state is what the body ends with. -/
theorem finish (c : Dev nD) : iprop(semVal (gcell c none) 0 ∗ held X Wm c last)
    ⊢ iprop(ended c ∗ (∃ W, owes (c : Thread nD τ) 0 W) ∗ staged X Wm c (outT X Wm c)) := by
  unfold held last ended landing staged readRes outRes
  simp only
  rw [cells_split, chunks_split, bigSep_congr (s := Finset.univ) (fun (j : Tr) _ => show gotRes X c j
    = iprop(semVal (gcell c (some (true, j))) 0 ∗ has c j.dst fullShare.right (chunk X c j.dst)) from rfl), bigSep_sep']
  iintro ⟨Hb, -, -, HA, -, ⟨HV, HR⟩, ⟨Hx, HL⟩, ⟨Hxr, Hw⟩, ⟨%f, %hf, Ho⟩, %W, HO⟩
  have hout : f = outT X Wm c := funext fun i => by
    obtain ⟨b, hb⟩ := blocks_cover c i
    refine hf b ?_ i hb
    cases b with
    | none => exact Finset.mem_insert_self _ _
    | some j => exact Finset.mem_insert_of_mem (Finset.mem_image_of_mem _ (Finset.mem_univ j))
  subst hout
  ihave Hs := (show iprop(bigSep Finset.univ (fun j : Tr => freeRes X c j.dst)
        ∗ bigSep Finset.univ fun j : Tr => has c j.dst fullShare.right (chunk X c j.dst))
      ⊢ bigSep Finset.univ fun j : Tr => (iprop(∃ Y, has c j.dst fullShare Y) : sProp 𝕄) from by
    rw [← bigSep_sep']
    exact bigSep_mono fun j _ => halves X c j) $$ [HL HR]
  · isplitl [HL] <;> iassumption
  ihave Hs := (Entails.of_eq (copies_split fun j : Tr => (iprop(∃ Y, has c j.dst fullShare Y) : sProp 𝕄))) $$ Hs
  icases Hs with ⟨Hs0, Hs1⟩
  ihave Hs0 := (comm_join c false default) $$ Hs0
  ihave Hs1 := (comm_join c true default) $$ Hs1
  ihave Hx := (x_join X c) $$ Hx
  isplitl [Hb HA HV Hs0 Hs1]
  · isplitl [Hb HA HV]
    · isplitl [Hb]; · iexact Hb
      isplitl [HA]; · iexact HA
      iexact HV
    · isplitl [Hs0]; · iexact Hs0
      iexact Hs1
  isplitl [HO]
  · iexists W; iexact HO
  isplitl [Hx Hxr]
  · iapply (pointsTo_share (PosShare.mem_left_op_right fullShare)).2
    isplitl [Hx]
    · iexact Hx
    · iexact Hxr
  isplitl [Hw]; · iexact Hw
  iexact Ho

/-- What the handshake leaves is what is held in the first state. -/
theorem begin_steps (c : Dev nD) (f : OutBuf F) (W : Waits sig Unit) :
    iprop((bigSep Finset.univ fun j : Tr => atPos ER (gcell c (some (false, j))) 0 ∅ 0)
        ∗ (bigSep Finset.univ fun j : Tr => atPos ER (gcell c (some (true, j))) 0 ∅ 0)
        ∗ (bigSep Finset.univ fun j : Tr => dutyTok ER (gcell c (some (false, j))) 0 false)
        ∗ (bigSep Finset.univ fun j : Tr => dutyTok ER (gcell (nbr c j.1) (some (true, j))) 0 false)
        ∗ (bigSep Finset.univ fun j : Tr => cred (tallyAt (gcell c (some (true, j))) () N))
        ∗ (pay X c none false ∗ pay X c none true) ∗ staged X Wm c f ∗ owes (c : Thread nD τ) (owed c Finset.univ) W)
      ⊢ held X Wm c first := by
  unfold held first staged readRes outRes
  simp only
  rw [own0_map, bigSep_map]
  rw [bigSep_congr (s := Finset.univ) (fun (j : Tr) _ => show unsentRes c j
    = (iprop(dutyTok ER (gcell c (some (false, j))) 0 false ∗ dutyTok ER (gcell (nbr c j.1) (some (true, j))) 0 false
    ∗ (∃ Y, has (nbr c j.1) j.dst fullShare Y) ∗ atPos ER (gcell c (some (false, j))) 0 ∅ 0) : sProp 𝕄) from rfl), bigSep_sep', bigSep_sep', bigSep_sep']
  rw [bigSep_congr (s := Finset.univ) (fun (j : Tr) _ => show dueRes c j
    = (iprop(cred (tallyAt (gcell c (some (true, j))) () N) ∗ atPos ER (gcell c (some (true, j))) 0 ∅ 0) : sProp 𝕄) from rfl), bigSep_sep']
  simp only [bigSep_empty]
  rw [copies_split fun j : Tr => (iprop(∃ Y, has (nbr c j.1) j.dst fullShare Y) : sProp 𝕄)]
  iintro ⟨HaS, HaV, HtS, HtV, Hc, ⟨Hp0, Hp1⟩, ⟨Hx, Hw, Ho⟩, HO⟩
  ihave Hx := (pointsTo_share (PosShare.mem_left_op_right fullShare)).1 $$ Hx
  icases Hx with ⟨Hxl, Hxr⟩
  ihave Hxl := (x_split X c) $$ Hxl
  isplitl [HtS HtV Hp0 Hp1 HaS]
  · isplitl [HtS]; · iexact HtS
    isplitl [HtV]; · iexact HtV
    isplitl [Hp0 Hp1]
    · isplitl [Hp0]
      · iapply (show pay X c none false ⊢ _ from Entails.of_eq (pay_bar X c false)) $$ Hp0
      · iapply (show pay X c none true ⊢ _ from Entails.of_eq (pay_bar X c true)) $$ Hp1
    iexact HaS
  isplitr; · iempintro
  isplitr; · iempintro
  isplitl [Hc HaV]
  · isplitl [Hc]
    · iexact Hc
    · iexact HaV
  isplitr; · iempintro
  isplitl [Hxl]; · iexact Hxl
  isplitl [Hxr Hw]
  · isplitl [Hxr]
    · iexact Hxr
    · iexact Hw
  isplitl [Ho]
  · iexists f
    isplitr; · ipureintro; intro b hb; exact absurd hb (Finset.notMem_empty b)
    iexact Ho
  iexists W
  iexact HO

/-! ## The run of the body -/

/-- The body of device `c`, from launch to end. -/
theorem sound_body (c : Dev nD) (t : Fin cfg0.N) (f : OutBuf F) (W : Waits sig Unit) (Ψ : PUnit.{1} → sProp 𝕄) :
    iprop((start X c ∗ landing c ∗ owes (c : Thread nD τ) (owed0 c) W ∗ staged X Wm c f)
        ∗ (iprop(ended c ∗ (∃ W, owes (c : Thread nD τ) 0 W) ∗ staged X Wm c (outT X Wm c)) -∗ Ψ ⟨⟩))
      ⊢ does c (bodyAt0 (F := F) t) Ψ := by
  unfold does
  rw [body_eq t]
  simp only [semSignalWord, semWaitWord, Prog.lift, Prog.bind_op, Prog.bind_ret, Prog.pure_eq_ret, wp_deviceId]
  simp only [dev1_eq c, dev2_eq c]
  unfold start landing linear payToks credits owed0
  rw [cells_split]
  iintro ⟨⟨⟨⟨%K, #HR, ⟨Hat, HaS, HaV⟩, Ht1, Ht2, HtS, HtV⟩, ⟨Hc, HcV⟩, #Hlev⟩, ⟨⟨%f0, Hs0⟩, ⟨%f1, Hs1⟩⟩, HO, Hst⟩, Hk⟩
  ihave Hs0 := (show (((c : Thread nD τ).loc cc0_scratch0) ↦{fullShare} f0 : sProp 𝕄) ⊢ _ from comm_split c false f0) $$ Hs0
  ihave Hs1 := (show (((c : Thread nD τ).loc cc0_scratch1) ↦{fullShare} f1 : sProp 𝕄) ⊢ _ from comm_split c true f1) $$ Hs1
  iapply (Rounds.wp_signal 𝒱₀ ER (sched X) (c : Thread nD τ) none (dst := (nbr c true : Thread nD τ)) (κ := K (nbr c true, none))
      (d := false) (by rw [show (((nbr c true : Thread nD τ), SemLoc.reg bar) : GSem nD τ sig) = gcell (nbr c true) none from rfl, duties_bar]; exact Finset.mem_univ _)
      ((amount_bar X (nbr c true) false).trans (by decide)) () (owed c Finset.univ + tallyAt (gcell (nbr c false) none) () 1) rfl)
    $$ [HO Ht1 Hs0]
  · isplitr; · iapply (records_inv X K (nbr c true) none); iexact HR
    isplitl [HO]; · iexact HO
    isplitl [Ht1]; · iexact Ht1
    isplitl [Hs0]
    · iapply (hand_over X c false true (nbr_nbr c true))
      iexact Hs0
    · iapply (records_reached X K (nbr c true) none); iexact HR
  iintro HO
  iapply (Rounds.wp_signal 𝒱₀ ER (sched X) (c : Thread nD τ) none (dst := (nbr c false : Thread nD τ)) (κ := K (nbr c false, none))
      (d := true) (by rw [show (((nbr c false : Thread nD τ), SemLoc.reg bar) : GSem nD τ sig) = gcell (nbr c false) none from rfl, duties_bar]; exact Finset.mem_univ _)
      ((amount_bar X (nbr c false) true).trans (by decide)) () (owed c Finset.univ) rfl)
    $$ [HO Ht2 Hs1]
  · isplitr; · iapply (records_inv X K (nbr c false) none); iexact HR
    isplitl [HO]; · iexact HO
    isplitl [Ht2]; · iexact Ht2
    isplitl [Hs1]
    · iapply (hand_over X c true false (nbr_nbr c false))
      iexact Hs1
    · iapply (records_reached X K (nbr c false) none); iexact HR
  iintro HO
  iapply (Rounds.wp_wait_rest_token 𝒱₀ ER (sched X) (c : Thread nD τ) none (κ := K (c, none))
      (wpE_semWait_eq 𝒱₀ (c : Thread nD τ) none Set.univ) (Set.mem_univ _) () (O := owed c Finset.univ) (W := W) (R := 0) (m := 0) (T := ∅)
      (by rw [show (((c : Thread nD τ), SemLoc.reg bar) : GSem nD τ sig) = gcell c none from rfl, expect_bar]; decide)) $$ [Hc HO Hat]
  · isplitr; · iapply (records_inv X K c none); iexact HR
    isplitl [Hc]; · iexact Hc
    isplitl [HO]; · iexact HO
    isplitr; · iapply (mayWait_of c (csem none) 1 Finset.univ (le_refl 1) (fun j _ => by omega)); iexact Hlev
    iexact Hat
  iintro ⟨HO, Hat, -, Hpay⟩
  ihave Hp := (show bigSep ((sched X).duties ((c : Thread nD τ), SemLoc.reg bar) 0 \ ∅) (fun d => (sched X).payload ((c : Thread nD τ), SemLoc.reg bar) 0 d)
      ⊢ iprop(pay X c none false ∗ pay X c none true) from Entails.of_eq (rest_bar X c)) $$ Hpay
  imod (Rounds.cell_close ER (sched X) (Set.mem_univ (K (c, none))) (fun h => h) (R := 0 + 1) (duties_later X (gcell c none))) $$ [Hat] with Hz
  · isplitr; · iapply (records_inv X K c none); iexact HR
    iexact Hat
  ihave Hh := (begin_steps X Wm c f (insert (SemLoc.reg bar, ()) W)) $$ [HaS HaV HtS HtV HcV Hp Hst HO]
  · isplitl [HaS]; · iexact HaS
    isplitl [HaV]; · iexact HaV
    isplitl [HtS]; · iexact HtS
    isplitl [HtV]; · iexact HtV
    isplitl [HcV]; · iexact HcV
    isplitl [Hp]; · iexact Hp
    isplitl [Hst]; · iexact Hst
    iexact HO
  iapply (walk_steps X Wm K c Ψ) $$ [Hh]
  · isplitr; · iexact HR
    isplitr; · iexact Hlev
    iexact Hh
  iintro Hh
  iapply Hk
  iapply (finish X Wm c)
  isplitl [Hz]
  · iexact Hz
  · iexact Hh

end Cert.Ring

end
-- ==== Proof.Launch.lean ====
/-
# The run

The launch deals every device its cells, the duties it pays and the credits it waits on; the body then runs, and the
program ends with the result array at the computed rows and every semaphore at zero.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- The blocks of `x` and of `w` as staged. -/
def xIn : XBlk F := fun c => (win0_0.blk (0 : Fin 1)).view.read (Elt F) (m ((c : Thread nD τ).loc main_arg0))
def wIn : WBlk F := fun c => (win0_1.blk (0 : Fin 1)).view.read (Elt F) (m ((c : Thread nD τ).loc main_arg1))

/-- The proof data of the one launch. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outT (xIn m) (wIn m) c
  Φ t := match t with
    | ⟨0, _⟩ => iprop(start (xIn m) c ∗ landing c)
    | ⟨_ + 1, _⟩ => ended c
  q _ := fullShare
  owed t := match t with
    | ⟨0, _⟩ => owed0 c
    | ⟨_ + 1, _⟩ => 0

/-! ## The body's obligation -/

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A whole buffer at the contents `Y`. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop((start (xIn m) c ∗ landing c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(ended c ∗ (dats m 0 c).owesAt () t0_0.succ ∗ stg c cc0_stg0_0 (xIn m c) ∗ stg c cc0_stg1_0 (wIn m c)
    ∗ stg c cc0_stg2_0 (outT (xIn m) (wIn m) c))

theorem run_body (c : Dev nD) : bodyPre m c ⊢ does c (bodyAt0 (F := F) t0_0) (fun _ => bodyPost m c) := by
  unfold bodyPre Dat.owesAt Pipeline.owesWithin
  iintro ⟨⟨Hs, Hl⟩, ⟨%W, %hW, HO⟩, ⟨%d0, %g0, %hg0, Hx⟩, ⟨%d1, %g1, %hg1, Hw⟩, %d2, %g2, %hg2, Ho⟩
  have hx : g0 = xIn m c := by rw [hg0]; unfold Dat.before; rw [if_pos (fetch0_0 t0_0)]; rfl
  have hw : g1 = wIn m c := by rw [hg1]; unfold Dat.before; rw [if_pos (fetch0_1 t0_0)]; rfl
  subst hx hw
  rw [show (dats m 0 c).owed t0_0.castSucc = owed0 c from rfl]
  iapply (sound_body (xIn m) (wIn m) c t0_0 g2 W (fun _ => bodyPost m c))
  isplitl [Hs Hl HO Hx Hw Ho]
  · isplitl [Hs]; · iexact Hs
    isplitl [Hl]; · iexact Hl
    isplitl [HO]; · iexact HO
    unfold staged
    isplitl [Hx]; · iexact Hx
    isplitl [Hw]; · iexact Hw
    iexact Ho
  unfold bodyPost Dat.owesAt Pipeline.owesWithin staged
  rw [show (dats m 0 c).owed t0_0.succ = 0 from rfl]
  iintro ⟨He, ⟨%W', HO⟩, Hx, Hw, Ho⟩
  isplitl [He]; · iexact He
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 20000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ does c (bodyAt0 (F := F) t0_0) (fun _ => bodyPost m c)
  exact run_body m c

/-! ## The cells and the duties at launch -/

/-- The kernel's own semaphores: the senders' and the receivers'. -/
abbrev osem : Bool × Tr → SemLoc sig := fun x => csem (some x)

theorem ownSemFacts : Pipeline.OwnSemFacts cfg0.spec osem :=
  ⟨by decide +kernel, fun x y h => Option.some.inj (csem_injective h), by decide +kernel⟩

theorem share_eq (c : Dev nD) (w : Fin cfg0.W) : (dats m 0 c).share w = fullShare := by unfold Dat.share; split <;> rfl

abbrev kcell (ck : Dev nD × Cell) : GSem nD τ sig := gcell ck.1 ck.2
theorem kcell_injective : Function.Injective kcell := fun _ _ h => Prod.ext (gcell_inj h).1 (gcell_inj h).2
def ringCells : Finset (GSem nD τ sig) := Finset.univ.map ⟨kcell, kcell_injective⟩

/-- A device's duties: two on its handshake, one on every other cell. -/
abbrev Duty := Bool ⊕ (Bool × Tr)
def Duty.cell : Duty → Cell
  | .inl _ => none
  | .inr x => some x
def Duty.name : Duty → Bool
  | .inl d => d
  | .inr _ => false
abbrev tokOf (cj : Dev nD × Duty) : GSem nD τ sig × ℕ × Bool := (gcell cj.1 cj.2.cell, 0, cj.2.name)
theorem tokOf_injective : Function.Injective tokOf := by
  rintro ⟨c, j⟩ ⟨c', j'⟩ h
  obtain ⟨h1, h2⟩ := gcell_inj (congrArg Prod.fst h)
  have h3 : j.name = j'.name := congrArg (fun x : GSem nD τ sig × ℕ × Bool => x.2.2) h
  have : c = c' := h1
  subst this
  refine Prod.ext rfl ?_
  rcases j with d | x <;> rcases j' with d' | x'
  · exact congrArg Sum.inl h3
  · cases h2
  · cases h2
  · exact congrArg Sum.inr (Option.some.inj h2)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duties of a device's own cells. -/
def toks (c : Dev nD) : sProp 𝕄 :=
  iprop((dutyTok ER (gcell c none) 0 false ∗ dutyTok ER (gcell c none) 0 true)
    ∗ bigSep Finset.univ (fun j : Tr => dutyTok ER (gcell c (some (false, j))) 0 false)
    ∗ bigSep Finset.univ fun j : Tr => dutyTok ER (gcell c (some (true, j))) 0 false)

theorem toks_eq (c : Dev nD) :
    (bigSep Finset.univ fun j : Duty => (dutyTok ER (gcell c j.cell) 0 j.name : sProp 𝕄)) = toks c := by
  rw [bigSep_univ_sum, bool_split, bigSep_univ_prod, bool_split]
  rfl

/-- What the launch element deals device `c`. -/
def G (c : Dev nD) : sProp 𝕄 :=
  iprop((bigSep Finset.univ fun k : Cell => roundState ER (sched (xIn m)) (gcell c k) 0)
    ∗ (bigSep Finset.univ fun k : Cell => atPos ER (gcell c k) 0 ∅ 0) ∗ (bigSep Finset.univ fun k : Cell => reached ER (gcell c k) 0) ∗ toks c)

/-- What the global step makes of it. -/
def G' (c : Dev nD) : sProp 𝕄 := iprop(∃ K, records (xIn m) K ∗ linear c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Cell => Φ (gcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched (xIn m)) ringCells ringToks) $$ HX with ⟨Hst, Hr, Hat, Htok⟩
  imodintro
  ihave Hst' := (Entails.of_eq (hX fun g => roundState ER (sched (xIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat']; · iexact Hat'
  isplitl [Hr'] <;> iassumption

/-- The semaphores at zero are the device's cells at zero. -/
theorem unscopedSems0_eq (c : Dev nD) : (unscopedSems0 c : sProp 𝕄) = semVal (gcell c none) 0 := by
  unfold unscopedSems0; rw [bigSep_eq_bigSepL_of_eq [SemLoc.reg bar] (by decide) (by decide)]; rfl
theorem sems0_eq (c : Dev nD) : (bigSep Finset.univ fun k : Cell => (semVal (gcell c k) 0 : sProp 𝕄))
    = iprop(unscopedSems0 c ∗ Pipeline.ownSems0 (Ix := Unit) (Name := ℕ) (U := UU) (Lvl := ℕ) (Val := Elt F) (τ := τ) osem c) := by
  rw [cells_split, unscopedSems0_eq]
  unfold Pipeline.ownSems0
  rw [bigSep_univ_prod (fun x : Bool × Tr => (semVal ((c.tc : Thread nD τ), osem x) 0 : sProp 𝕄)), bool_split]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched (xIn m)) κ (gcell c k)))
          ∗ (bigSep Finset.univ fun k : Cell => atPos ER (gcell c k) 0 ∅ 0) ∗ (bigSep Finset.univ fun k : Cell => reached ER (gcell c k) 0) ∗ toks c) := by
  unfold G
  iintro ⟨Hos, Hus, Hst, Hat, Hre, Htok⟩
  ihave Hv := (Entails.of_eq (sems0_eq (F := F) c).symm) $$ [Hos Hus]
  · isplitl [Hus] <;> iassumption
  imod (show iprop((bigSep Finset.univ fun k : Cell => semVal (gcell c k) 0) ∗ bigSep Finset.univ fun k : Cell => roundState ER (sched (xIn m)) (gcell c k) 0)
      ⊢ (|={Set.univ}=> bigSep Finset.univ fun k : Cell => iprop(∃ κ : ℕ, cellInv ER (sched (xIn m)) κ (gcell c k)) : sProp 𝕄) from by
        rw [← bigSep_sep']
        exact (bigSep_mono fun k _ => (Rounds.body_intro ER (sched (xIn m)) (gcell c k)).trans inv_alloc).trans (bigSep_fupd _ _)) $$ [Hv Hst] with Hinv
  · isplitl [Hv] <;> iassumption
  imodintro
  isplitl [Hinv]; · iexact Hinv
  isplitl [Hat]; · iexact Hat
  isplitl [Hre] <;> iassumption

/-! ## Dealing the duties around the ring -/

/-- The neighbours of one direction, as an equivalence. -/
def ring (d : Bool) : Dev nD ≃ Dev nD := ⟨fun c => nbr c d, fun c => nbr c (!d), fun c => nbr_nbr c d, fun c => nbr_nbr' c d⟩

theorem swap (Φ : Dev nD → Tr → sProp 𝕄) : (bigSep Finset.univ fun c : Dev nD => bigSep Finset.univ fun j : Tr => Φ c j)
    = bigSep Finset.univ fun c : Dev nD => bigSep Finset.univ fun j : Tr => Φ (nbr c j.1) j := by
  rw [bigSep_univ_comm, bigSep_univ_comm (Φ := fun (c : Dev nD) (j : Tr) => Φ (nbr c j.1) j)]
  exact bigSep_congr fun j _ => bigSep_univ_equiv (ring j.1) fun c => Φ c j

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv (ring true) (fun c : Dev nD => (dutyTok ER (gcell c none) 0 false : sProp 𝕄)),
    bigSep_univ_equiv (ring false) (fun c : Dev nD => (dutyTok ER (gcell c none) 0 true : sProp 𝕄)),
    swap fun c j => dutyTok ER (gcell c (some (true, j))) 0 false]
  iintro ⟨⟨H1, H2⟩, H3, H4⟩
  isplitl [H1]; · iexact H1
  isplitl [H2]; · iexact H2
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Cell → ℕ) (c : Dev nD) : iprop(records (xIn m) K ∗ linear c) ⊢ G' m c := by
  unfold G'
  iintro H
  iexists K
  iexact H

theorem regroup :
    (bigSep Finset.univ fun c : Dev nD => iprop((bigSep Finset.univ fun k : Cell => iprop(∃ κ : ℕ, cellInv ER (sched (xIn m)) κ (gcell c k)))
          ∗ (bigSep Finset.univ fun k : Cell => atPos ER (gcell c k) 0 ∅ 0) ∗ (bigSep Finset.univ fun k : Cell => reached ER (gcell c k) 0) ∗ toks c) : sProp 𝕄)
      ⊢ bigSep Finset.univ (G' m) := by
  rw [bigSep_sep', bigSep_sep', bigSep_sep', ← bigSep_univ_prod (fun ck : Dev nD × Cell => iprop(∃ κ : ℕ, cellInv ER (sched (xIn m)) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (sched (xIn m)) κ (kcell ck) : sProp 𝕄))) $$ HI
  icases HK with ⟨%K, #HI⟩
  ihave Htk := (toks_around (F := F)) $$ Htok
  iapply (bigSep_with_persistent (R := records (xIn m) K) fun c _ => deal m K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem credit_copies (c : Dev nD) : (Pipeline.launchCred (fun d : Dev nD => owed d Finset.univ) c : sProp 𝕄)
    ⊢ bigSep Finset.univ fun j : Tr => cred (tallyAt (gcell c (some (true, j))) () N) := by
  unfold owed
  rw [Pipeline.launchCred_sum Finset.univ (fun (j : Tr) (d : Dev nD) => (tallyAt (gcell (nbr d j.1) (some (true, j))) () N : CellTallies nD τ sig Unit)) c]
  exact bigSep_mono fun j _ => Pipeline.launchCred_tallyAt _ (fun d => nbr d j.1) (fun d => nbr d (!j.1)) (fun d => nbr_nbr' d j.1) (fun d => nbr_nbr d j.1) () N c

theorem credit_hand (c : Dev nD) (e : Bool) : (Pipeline.launchCred (fun d : Dev nD => tallyAt (gcell (nbr d e) none) () 1) c : sProp 𝕄)
    ⊢ cred (tallyAt (gcell c none) () 1) :=
  Pipeline.launchCred_tallyAt _ (fun d => nbr d e) (fun d => nbr d (!e)) (fun d => nbr_nbr' d e) (fun d => nbr_nbr d e) () 1 c

theorem two_units (c : Dev nD) : (tallyAt (gcell c none) () 2 : CellTallies nD τ sig Unit)
    = tallyAt (gcell c none) () 1 + tallyAt (gcell c none) () 1 := by
  rw [tallyAt_add]

theorem creds (c : Dev nD) : (Pipeline.launchCred owed0 c : sProp 𝕄) ⊢ credits c := by
  show Pipeline.launchCred (fun d => (owed d Finset.univ + tallyAt (gcell (nbr d false) none) () 1) + tallyAt (gcell (nbr d true) none) () 1) c ⊢ _
  rw [Pipeline.launchCred_add (fun d => owed d Finset.univ + tallyAt (gcell (nbr d false) none) () 1) (fun d => tallyAt (gcell (nbr d true) none) () 1),
    Pipeline.launchCred_add (fun d => owed d Finset.univ) (fun d => tallyAt (gcell (nbr d false) none) () 1)]
  unfold credits
  iintro ⟨⟨Hc, H1⟩, H2⟩
  ihave Hc := (credit_copies c) $$ Hc
  ihave H1 := (credit_hand c false) $$ H1
  ihave H2 := (credit_hand c true) $$ H2
  isplitl [H1 H2]
  · rw [two_units]
    iapply (cred_add _ _).2
    isplitl [H1] <;> iassumption
  iexact Hc

/-! ## The waits of the staging -/

/-- All a device owes at launch is at level 1 or above. -/
theorem owed0_mem {c : Dev nD} {g : GSem nD τ sig} {u : Unit} (h : 0 < owed0 c g u) : u ∈ L g ∧ 0 < lv g u := by
  unfold owed0 at h
  rw [Pi.add_apply, Finsupp.add_apply, Pi.add_apply, Finsupp.add_apply, tallyAt_apply, tallyAt_apply] at h
  by_cases h0 : 0 < owed c Finset.univ g u
  · obtain ⟨j, -, rfl⟩ := owed_mem h0
    cases u
    exact ⟨by rw [L_tc]; exact Finset.mem_singleton_self _, by rw [lv_recv]; omega⟩
  by_cases h1 : g = gcell (nbr c false) none
  · subst h1; exact ⟨by rw [L_tc]; exact Finset.mem_singleton_self _, Nat.one_pos⟩
  by_cases h2 : g = gcell (nbr c true) none
  · subst h2; exact ⟨by rw [L_tc]; exact Finset.mem_singleton_self _, Nat.one_pos⟩
  rw [if_neg fun h => h1 h.1, if_neg fun h => h2 h.1] at h
  omega

theorem mayWait_stage (c : Dev nD) (q : DmaSem sig) (hq : lv ((c : Thread nD τ), .dma q) () = 0) (O : CellTallies nD τ sig Unit)
    (hO : O = owed0 c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (owed0_mem hg).1) (fun p hp => by rw [Finset.mem_singleton.mp hp]; exact le_of_eq hq) (fun g u hg => (owed0_mem hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The region's entry and exit -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start (xIn m) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start (xIn m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (xIn m) c ∗ landing c) from rfl, scopedRest0_eq]
  unfold landing
  iintro ⟨Hs, -, Hl⟩
  isplitl [Hs]; · iexact Hs
  iexact Hl

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = ended c from rfl, scopedRest0_eq]
  unfold ended landing
  rw [sems0_eq]
  iintro ⟨⟨Hu, Ho⟩, Hl⟩
  isplitl [Hu]; · iexact Hu
  isplitl [Ho]; · iexact Ho
  iexact Hl

/-! ## The run -/

/-- Every window's array ends at what the proof data say. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with every semaphore at zero the program ends, each device's result array as computed, its arguments
    unchanged and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start (xIn m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem final_x (c : Dev nD) : (dats m 0 c).arrAt (0 : Fin 3) cfg0.N = m (win0_0.arr.view.loc (c : Thread nD τ)) :=
  (dats (F := F) m 0 c).arrAt_in (0 : Fin 3) rfl _
theorem final_w (c : Dev nD) : (dats m 0 c).arrAt (1 : Fin 3) cfg0.N = m (win0_1.arr.view.loc (c : Thread nD τ)) :=
  (dats (F := F) m 0 c).arrAt_in (1 : Fin 3) rfl _

end Cert.Ring

end
-- ==== Proof.Product.lean ====
/-
# The arithmetic, over the extended reals

At `Ideal` a product of matrices is a sum over the contracted coordinate, so the 256-row product of the device's own
block and the 32-row product of a landed chunk are one formula, `entry`: a dot product times its logistic. The reference
applies the same formula to the whole arrays.
-/
module

public import proofs.«01_k».proof.Proof.Output
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout

@[expose] public section

noncomputable section

namespace Cert.Ring

open Cert.KernelIdeal Cert.KernelIdeal.Gen
open Idealize.ShloMosaic Idealize.ShloMosaic.TcCoe Idealize.ShloMosaic.Tactic Idealize.ShloMosaic.ValueIdx
open scoped BigOperators

/-- A dot product of two vectors of 1024 entries, times its logistic. -/
def entry (u v : Fin 1024 → EReal) : EReal := (∑ k, u k * v k) * Ideal.logistic (∑ k, u k * v k)

/-- The device's own product at row `a`, column `n`. -/
theorem pay1_apply (x : FVec Ideal S256x1024 .bf16) (w : FVec Ideal S1024x256 .bf16) (a n : Fin 256) :
    k0_pay1 (F := Ideal) x w (Shape.pair a n) = entry (fun k => x (ix2 a k)) (fun k => w (ix2 k n)) := by
  have hd : dot_S256x1024_S1024x256_S256x256_1_0_0_1_n_n = DotDims.plain 256 1024 256 := rfl
  have hm : matmul dot_S256x1024_S1024x256_S256x256_1_0_0_1_n_n none (φ₁ := .bf16) (φ₂ := .bf16) x w
      (constant S256x256 .f32 0x00000000#32) (ix2 a n) = (∑ k, x (ix2 a k) * w (ix2 k n) : EReal) := by
    rw [hd]
    refine (Ideal.matmul_plain_apply none x w _ a n).trans ?_
    rw [show (constant (F := Ideal) S256x256 .f32 0x00000000#32) (ix2 a n) = 0 from Ideal.ofBits_zero_f32, zero_add]
  rw [show Shape.pair a n = ix2 a n from (eq_ix2 (Shape.pair a n)).trans rfl]
  unfold k0_pay1 entry
  dsimp only
  rw [shapeCast_self, shapeCast_self, ← hm]
  rfl

/-- A chunk's product at row `a`, column `n`. -/
theorem pay3_apply (x : FVec Ideal S32x1024 .bf16) (w : FVec Ideal S1024x256 .bf16) (a : Fin 32) (n : Fin 256) :
    k0_pay3 (F := Ideal) x w (Shape.pair a n) = entry (fun k => x (ix2 a k)) (fun k => w (ix2 k n)) := by
  have hd : dot_S32x1024_S1024x256_S32x256_1_0_0_1_n_n = DotDims.plain 32 1024 256 := rfl
  have hm : matmul dot_S32x1024_S1024x256_S32x256_1_0_0_1_n_n none (φ₁ := .bf16) (φ₂ := .bf16) x w
      (constant S32x256 .f32 0x00000000#32) (ix2 a n) = (∑ k, x (ix2 a k) * w (ix2 k n) : EReal) := by
    rw [hd]
    refine (Ideal.matmul_plain_apply none x w _ a n).trans ?_
    rw [show (constant (F := Ideal) S32x256 .f32 0x00000000#32) (ix2 a n) = 0 from Ideal.ofBits_zero_f32, zero_add]
  rw [show Shape.pair a n = ix2 a n from (eq_ix2 (Shape.pair a n)).trans rfl]
  unfold k0_pay3 entry
  dsimp only
  rw [shapeCast_self, ← hm]
  rfl

/-- A chunk is 32 consecutive rows of its block. -/
theorem rowsOf_apply (Y : (cc0_stg0_0 : Ref sig .tc).ty.Contents (Elt Ideal)) (d : Bool) (q : Fin 4) (a : Fin 32) (k : Fin 1024)
    (r : Fin 256) (hr : r.val = row0 d q + a.val) : rowsOf Y d q (ix2 a k) = Y (ix2 r k) := by
  refine congrArg Y (funext fun b => Fin.ext ?_)
  fin_cases b
  · show row0 d q + 1 * a.val = r.val; omega
  · show 0 + 1 * k.val = k.val; omega

/-- Every entry of a device's output is the formula at a row of the block that owns it. -/
theorem outT_entry (X : XBlk Ideal) (Wm : WBlk Ideal) (c o : Dev nD) (b n : Fin 256) (r : Fin 1024) (hr : r.val = 256 * o.val + b.val) :
    outT X Wm c (ix2 r n) = entry (fun k => X o (ix2 b k)) (fun k => Wm c (ix2 k n)) := by
  by_cases hoc : o = c
  · subst hoc
    exact (outRow_own X Wm o r n b hr).trans (pay1_apply (X o) (Wm o) b n)
  · have hb := b.isLt
    have h : ∃ (d : Bool), 128 * d.toNat ≤ b.val ∧ b.val < 128 * d.toNat + 128 := by
      by_cases h : 128 ≤ b.val
      · exact ⟨true, by show 128 * 1 ≤ b.val; omega, by show b.val < 128 * 1 + 128; omega⟩
      · exact ⟨false, by show 128 * 0 ≤ b.val; omega, by show b.val < 128 * 0 + 128; omega⟩
    obtain ⟨d, hd1, hd2⟩ := h
    have hq : (b.val - 128 * d.toNat) / 32 < 4 := by omega
    have ha : (b.val - 128 * d.toNat) % 32 < 32 := Nat.mod_lt _ (by decide)
    have h0 : row0 d ⟨(b.val - 128 * d.toNat) / 32, hq⟩ + (b.val - 128 * d.toNat) % 32 = b.val := by
      show 128 * d.toNat + 32 * ((b.val - 128 * d.toNat) / 32) + _ = _; omega
    refine (outRow_chunk X Wm c o d ⟨_, hq⟩ r n ⟨_, ha⟩ hoc (by rw [hr, Nat.add_assoc, h0])).trans ?_
    refine (pay3_apply (rowsOf (X o) d ⟨_, hq⟩) (Wm c) ⟨_, ha⟩ n).trans ?_
    exact congrArg (fun u => entry u (fun k => Wm c (ix2 k n)))
      (funext fun k => rowsOf_apply (X o) d ⟨_, hq⟩ ⟨_, ha⟩ k b h0.symm)

/-- The reference's result on whole arrays. -/
def refOut (x w : (Cert.ReferenceIdeal.main_arg0 : Ref Cert.ReferenceIdeal.sig .tc).ty.Contents (Elt Ideal)) :
    (Cert.ReferenceIdeal.main_v7 : Ref Cert.ReferenceIdeal.sig .tc).ty.Contents (Elt Ideal) :=
  fun i => entry (fun k => x (ix2 (i 0) k)) (fun k => w (ix2 k (i 1)))

/-- One plus an exponential is not zero. -/
theorem one_add_exp_ne_zero (x : EReal) : (1 : EReal) + Ideal.exp x ≠ 0 := by
  have h : (0 : EReal) ≤ Ideal.exp x := by
    match x with
    | ⊥ => exact le_refl _
    | ⊤ => exact le_top
    | (r : ℝ) => exact EReal.coe_nonneg.mpr (Real.exp_pos r).le
  have h1 : (1 : EReal) ≤ 1 + Ideal.exp x := le_add_of_nonneg_right h
  intro e; rw [e] at h1; exact absurd h1 (by simp)

/-- A number times its logistic is the number over one plus the exponential of its negative. -/
theorem mul_logistic (s : EReal) : s * Ideal.logistic s = Ideal.div s (1 + Ideal.exp (-s)) :=
  Ideal.mul_one_div (one_add_exp_ne_zero _)

section Reference
open Cert.ReferenceIdeal Cert.ReferenceIdeal.Gen

/-- The reference's product at an index; its rounding to bf16 is the identity over the extended reals. -/
theorem ref_product (x w : FVec Ideal S1024x1024 .bf16) (a n : Fin 1024) :
    Host.dotGeneral dot_S1024x1024_S1024x1024_S1024x1024_1_0_0_1_n_n none x w (ix2 a n) = (∑ k, x (ix2 a k) * w (ix2 k n) : EReal) := by
  rw [show dot_S1024x1024_S1024x1024_S1024x1024_1_0_0_1_n_n = DotDims.plain 1024 1024 1024 from rfl]
  exact StackMember.dotGeneral_plain_apply none _ _ a n

/-- The reference's term is the formula at each index. -/
theorem ref_eq (x w : FVec Ideal S1024x1024 .bf16) :
    Host.divf (extf .f32 (truncf .bf16 (Host.dotGeneral dot_S1024x1024_S1024x1024_S1024x1024_1_0_0_1_n_n none x w) bitsLt_bf16_f32) bitsLt_bf16_f32)
      (addf (broadcastInDim S1024x1024 ![] bcast_S_S1024x1024 (constant Cert.ReferenceIdeal.S_ .f32 0x3F800000#32))
        (Host.exp (Host.negf (extf .f32 (truncf .bf16 (Host.dotGeneral dot_S1024x1024_S1024x1024_S1024x1024_1_0_0_1_n_n none x w) bitsLt_bf16_f32)
          bitsLt_bf16_f32)))) = refOut x w := by
  funext i
  obtain ⟨a, n, rfl⟩ : ∃ (a n : Fin 1024), i = ix2 a n := ⟨i 0, i 1, eq_ix2 i⟩
  have h1 : (broadcastInDim S1024x1024 ![] bcast_S_S1024x1024 (constant (F := Ideal) Cert.ReferenceIdeal.S_ .f32 0x3F800000#32)) (ix2 a n) = (1 : EReal) :=
    (broadcastInDim_scalar_apply _ _ _).trans Ideal.ofBits_one_f32
  refine Eq.trans ?_ (mul_logistic (∑ k, x (ix2 a k) * w (ix2 k n))).symm
  rw [← h1, ← ref_product x w a n]
  rfl

end Reference

/-- Device `c`'s output is its block of columns of the reference's result. -/
theorem outT_eq (x w : (Cert.ReferenceIdeal.main_arg0 : Ref Cert.ReferenceIdeal.sig .tc).ty.Contents (Elt Ideal)) (c : Dev nD) :
    outT (fun c => Layout.block ⟨2, ![256, 1024]⟩ ⟨2, ![1024, 1024]⟩ 0 4 c x)
        (fun c => Layout.block ⟨2, ![1024, 256]⟩ ⟨2, ![1024, 1024]⟩ 1 4 c w) c
      = Layout.block ⟨2, ![1024, 256]⟩ ⟨2, ![1024, 1024]⟩ 1 4 c (refOut x w) := by
  funext i
  obtain ⟨r, n, rfl⟩ : ∃ (r : Fin 1024) (n : Fin 256), i = ix2 r n := ⟨i 0, i 1, eq_ix2 i⟩
  have hr := r.isLt
  refine (outT_entry _ _ c ⟨r.val / 256, by show r.val / 256 < 4; omega⟩ ⟨r.val % 256, Nat.mod_lt _ (by decide)⟩ n r
    (by show r.val = 256 * (r.val / 256) + r.val % 256; omega)).trans ?_
  rw [Layout.block_apply]
  unfold refOut
  congr 1
  · funext k
    rw [Layout.block_apply]
    refine congrArg x (funext fun b => Fin.ext ?_)
    fin_cases b
    · show r.val / 256 * 256 + r.val % 256 = r.val; omega
    · rfl
  · funext k
    rw [Layout.block_apply]
    refine congrArg w (funext fun b => Fin.ext ?_)
    fin_cases b <;> rfl

end Cert.Ring

end
-- ==== Proof.Clip.lean ====
/-
# The clip

The problem's reference clips the product to [-60, 60] before the exponential, and the kernel does not. Where the squares of
a row of `x` add up to at most 1800 and those of a column of the weights to at most 2, a product's entry lies in that
interval, and the clip changes nothing.
-/
module

public import proofs.«01_k».proof.Proof.Product
public import proofs.«01_k».proof.Proof.Gen.ClippedIdeal.Run
public import proofs.«01_k».proof.Proof.Gen.Pre_moderate_KernelIdeal
public import Idealize.ShloMosaic.Lib.Pointwise

@[expose] public section

noncomputable section

namespace Cert.Ring

open Idealize.ShloMosaic hiding ix1 ix2 eq_ix2
open Idealize.ShloMosaic.TcCoe Idealize.ShloMosaic.ValueIdx
open scoped BigOperators

/-! ## Numbers -/

theorem sq_nonneg' (a : EReal) : 0 ≤ a * a := by
  match a with
  | ⊥ => simp
  | ⊤ => simp
  | (r : ℝ) => exact_mod_cast mul_self_nonneg r

/-- A number with a finite square is real. -/
theorem real_of_sq (a : EReal) (B : ℝ) (h : a * a ≤ (B : EReal)) : ∃ r : ℝ, a = (r : EReal) := by
  induction a using EReal.rec with
  | bot => rw [EReal.bot_mul_bot] at h; exact absurd h (by simp)
  | coe r => exact ⟨r, rfl⟩
  | top => rw [EReal.top_mul_top] at h; exact absurd h (by simp)

theorem coe_total (f : Fin 1024 → ℝ) : ((∑ k, f k : ℝ) : EReal) = ∑ k, (f k : EReal) :=
  map_sum (⟨⟨fun r : ℝ => (r : EReal), EReal.coe_zero⟩, EReal.coe_add⟩ : ℝ →+ EReal) f Finset.univ

/-- A vector whose squares have a finite sum is a vector of reals. -/
theorem real_of_sq_le (u : Fin 1024 → EReal) (B : ℝ) (h : ∑ k, u k * u k ≤ (B : EReal)) :
    ∃ r : Fin 1024 → ℝ, (∀ k, u k = (r k : EReal)) ∧ ∑ k, r k * r k ≤ B := by
  have hk : ∀ k, ∃ r : ℝ, u k = (r : EReal) := fun k => by
    exact real_of_sq (u k) B
      ((Finset.single_le_sum (f := fun k => u k * u k) (fun i _ => sq_nonneg' (u i)) (Finset.mem_univ k)).trans h)
  choose r hr using hk
  refine ⟨r, hr, ?_⟩
  have e : ∑ k, u k * u k = ((∑ k, r k * r k : ℝ) : EReal) := by
    rw [coe_total]
    exact Finset.sum_congr rfl fun k _ => by rw [hr k, EReal.coe_mul]
  rw [e] at h
  exact_mod_cast h

/-- Two such vectors have a dot product between -60 and 60. -/
theorem dot_bounds (u v : Fin 1024 → EReal) (hu : ∑ k, u k * u k ≤ ((1800 : ℝ) : EReal)) (hv : ∑ k, v k * v k ≤ ((2 : ℝ) : EReal)) :
    ((-60 : ℝ) : EReal) ≤ ∑ k, u k * v k ∧ ∑ k, u k * v k ≤ ((60 : ℝ) : EReal) := by
  obtain ⟨r, hr, hr2⟩ := real_of_sq_le u 1800 hu
  obtain ⟨s, hs, hs2⟩ := real_of_sq_le v 2 hv
  have e : ∑ k, u k * v k = ((∑ k, r k * s k : ℝ) : EReal) := by
    rw [coe_total]
    exact Finset.sum_congr rfl fun k _ => by rw [hr k, hs k, EReal.coe_mul]
  have h1 : 0 ≤ ∑ k, (r k - 30 * s k) * (r k - 30 * s k) := Finset.sum_nonneg fun k _ => mul_self_nonneg _
  have h2 : 0 ≤ ∑ k, (r k + 30 * s k) * (r k + 30 * s k) := Finset.sum_nonneg fun k _ => mul_self_nonneg _
  have e1 : ∑ k, (r k - 30 * s k) * (r k - 30 * s k) = ∑ k, r k * r k - 60 * ∑ k, r k * s k + 900 * ∑ k, s k * s k := by
    rw [Finset.mul_sum, Finset.mul_sum, ← Finset.sum_sub_distrib, ← Finset.sum_add_distrib]
    exact Finset.sum_congr rfl fun k _ => by ring
  have e2 : ∑ k, (r k + 30 * s k) * (r k + 30 * s k) = ∑ k, r k * r k + 60 * ∑ k, r k * s k + 900 * ∑ k, s k * s k := by
    rw [Finset.mul_sum, Finset.mul_sum, ← Finset.sum_add_distrib, ← Finset.sum_add_distrib]
    exact Finset.sum_congr rfl fun k _ => by ring
  rw [e]
  exact ⟨EReal.coe_le_coe_iff.mpr (by linarith), EReal.coe_le_coe_iff.mpr (by linarith)⟩

/-! ## The precondition -/

theorem ofBits_sixty : Ideal.ofBits .f32 0x42700000#32 = ((60 : ℝ) : EReal) := by
  simp [Ideal.ofBits, Ideal.ieee, -EReal.coe_mul]; norm_num

theorem ofBits_neg_sixty : Ideal.ofBits .f32 0xC2700000#32 = ((-60 : ℝ) : EReal) := by
  simp [Ideal.ofBits, Ideal.ieee, -EReal.coe_mul, -EReal.coe_neg]; norm_num

theorem ofBits_1800 : Ideal.ofBits .f32 0x44E10000#32 = ((1800 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem le_of_cmp {a b : EReal} (h : Ideal.cmp .ole a b = 1#1) : a ≤ b := by
  unfold Ideal.cmp at h
  by_contra hn
  dsimp only at h
  rw [show decide (a ≤ b) = false from decide_eq_false hn] at h
  exact absurd h (by decide)

section Precondition
open Cert.Pre_moderate_KernelIdeal Cert.Pre_moderate_KernelIdeal.Gen

/-- What the precondition says of a row of the device's block of `x`. -/
theorem rows_bounded (x : FVec Ideal S256x1024 .bf16) (w : FVec Ideal S1024x256 .bf16)
    (h : (Cert.Pre_moderate_KernelIdeal.fn (F := Ideal) x w).1 = fun _ => 1#1) (a : Fin 256) :
    ∑ k, x (ix2 a k) * x (ix2 a k) ≤ ((1800 : ℝ) : EReal) := by
  have h1 := le_of_cmp (show Ideal.cmp .ole (Ideal.hostReduceAdd reducesTo_S256x1024_S256_d1 (fun i => x i * x i) (Ideal.ofBits .f32 0x00000000#32) (ix1 a))
    (Ideal.ofBits .f32 0x44E10000#32) = 1#1 from congrFun h (ix1 a))
  rw [Ideal.hostReduceAdd_r2_a1, Ideal.ofBits_zero_f32, zero_add, ofBits_1800] at h1
  exact h1

/-- What it says of a column of its block of the weights. -/
theorem columns_bounded (x : FVec Ideal S256x1024 .bf16) (w : FVec Ideal S1024x256 .bf16)
    (h : (Cert.Pre_moderate_KernelIdeal.fn (F := Ideal) x w).2 = fun _ => 1#1) (n : Fin 256) :
    ∑ k, w (ix2 k n) * w (ix2 k n) ≤ ((2 : ℝ) : EReal) := by
  have h1 := le_of_cmp (show Ideal.cmp .ole (Ideal.hostReduceAdd reducesTo_S1024x256_S256_d0 (fun i => w i * w i) (Ideal.ofBits .f32 0x00000000#32) (ix1 n))
    (Ideal.ofBits .f32 0x40000000#32) = 1#1 from congrFun h (ix1 n))
  rw [Ideal.hostReduceAdd_r2_a0, Ideal.ofBits_zero_f32, zero_add, ofBits_two] at h1
  exact h1

end Precondition

/-- The bound on the rows of every device's block is one on the rows of the whole array. -/
theorem whole_rows (x : FVec Ideal ⟨2, ![1024, 1024]⟩ .bf16) (h : ∀ (c : Fin 4) (a : Fin 256),
      ∑ k, Layout.block ⟨2, ![256, 1024]⟩ ⟨2, ![1024, 1024]⟩ 0 4 c x (by decide) (ix2 a k)
        * Layout.block ⟨2, ![256, 1024]⟩ ⟨2, ![1024, 1024]⟩ 0 4 c x (by decide) (ix2 a k) ≤ ((1800 : ℝ) : EReal)) (r : Fin 1024) :
    ∑ k, x (ix2 r k) * x (ix2 r k) ≤ ((1800 : ℝ) : EReal) := by
  have hr := r.isLt
  have h1 := h ⟨r.val / 256, by omega⟩ ⟨r.val % 256, Nat.mod_lt _ (by decide)⟩
  refine (le_of_eq (Finset.sum_congr rfl fun k _ => ?_)).trans h1
  rw [Layout.block_apply]
  refine congrArg (fun i => x i * x i) (funext fun b => Fin.ext ?_)
  fin_cases b
  · show r.val = r.val / 256 * 256 + r.val % 256; omega
  · rfl

/-- The bound on the columns likewise. -/
theorem whole_columns (w : FVec Ideal ⟨2, ![1024, 1024]⟩ .bf16) (h : ∀ (c : Fin 4) (n : Fin 256),
      ∑ k, Layout.block ⟨2, ![1024, 256]⟩ ⟨2, ![1024, 1024]⟩ 1 4 c w (by decide) (ix2 k n)
        * Layout.block ⟨2, ![1024, 256]⟩ ⟨2, ![1024, 1024]⟩ 1 4 c w (by decide) (ix2 k n) ≤ ((2 : ℝ) : EReal)) (r : Fin 1024) :
    ∑ k, w (ix2 k r) * w (ix2 k r) ≤ ((2 : ℝ) : EReal) := by
  have hr := r.isLt
  have h1 := h ⟨r.val / 256, by omega⟩ ⟨r.val % 256, Nat.mod_lt _ (by decide)⟩
  refine (le_of_eq (Finset.sum_congr rfl fun k _ => ?_)).trans h1
  rw [Layout.block_apply]
  refine congrArg (fun i => w i * w i) (funext fun b => Fin.ext ?_)
  fin_cases b
  · rfl
  · show r.val = r.val / 256 * 256 + r.val % 256; omega

/-! ## The reference with the clip -/

section Reference
open Cert.ClippedIdeal Cert.ClippedIdeal.Gen

/-- The clipped product at an index. -/
theorem clip_product (x w : FVec Ideal S1024x1024 .bf16) (a n : Fin 1024) :
    Host.dotGeneral dot_S1024x1024_S1024x1024_S1024x1024_1_0_0_1_n_n none x w (ix2 a n) = (∑ k, x (ix2 a k) * w (ix2 k n) : EReal) := by
  rw [show dot_S1024x1024_S1024x1024_S1024x1024_1_0_0_1_n_n = DotDims.plain 1024 1024 1024 from rfl]
  exact StackMember.dotGeneral_plain_apply none _ _ a n

/-- Under the bounds on the rows and the columns the reference with the clip is the one without. -/
theorem clip_eq (x w : FVec Ideal S1024x1024 .bf16) (hx : ∀ a, ∑ k, x (ix2 a k) * x (ix2 a k) ≤ ((1800 : ℝ) : EReal))
    (hw : ∀ n, ∑ k, w (ix2 k n) * w (ix2 k n) ≤ ((2 : ℝ) : EReal)) :
    Host.divf (extf .f32 (truncf .bf16 (Host.dotGeneral dot_S1024x1024_S1024x1024_S1024x1024_1_0_0_1_n_n none x w) bitsLt_bf16_f32) bitsLt_bf16_f32)
      (addf (broadcastInDim S1024x1024 ![] bcast_S_S1024x1024 (constant S_ .f32 0x3F800000#32))
        (Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32)))
            (extf .f32 (truncf .bf16 (Host.dotGeneral dot_S1024x1024_S1024x1024_S1024x1024_1_0_0_1_n_n none x w) bitsLt_bf16_f32)
              bitsLt_bf16_f32)))))) = refOut x w := by
  funext i
  obtain ⟨a, n, rfl⟩ : ∃ (a n : Fin 1024), i = ix2 a n := ⟨i 0, i 1, eq_ix2 i⟩
  have hb : ∀ b : BitVec 32, (broadcastInDim S1024x1024 ![] bcast_S_S1024x1024 (constant (F := Ideal) S_ .f32 b)) (ix2 a n) = Ideal.ofBits .f32 b :=
    fun b => broadcastInDim_scalar_apply _ _ _
  obtain ⟨hlo, hhi⟩ := dot_bounds _ _ (hx a) (hw n)
  have hc : min (Ideal.ofBits .f32 0x42700000#32) (max (Ideal.ofBits .f32 0xC2700000#32) (∑ k, x (ix2 a k) * w (ix2 k n))) =
      ∑ k, x (ix2 a k) * w (ix2 k n) := by
    rw [ofBits_sixty, ofBits_neg_sixty, max_eq_right hlo, min_eq_right hhi]
  refine Eq.trans ?_ (mul_logistic (∑ k, x (ix2 a k) * w (ix2 k n))).symm
  have h1 := (hb 0x3F800000#32).trans Ideal.ofBits_one_f32
  rw [← h1]
  refine Eq.trans ?_ (congrArg (fun z : EReal => Ideal.div (∑ k, x (ix2 a k) * w (ix2 k n)) (_ + Ideal.exp (-z))) hc)
  rw [← hb 0x42700000#32, ← hb 0xC2700000#32, ← clip_product x w a n]
  rfl

end Reference

end Cert.Ring

end
-- ==== Proof.Claims.lean ====
/-
# The claims

Each claim of the certificate read off the run: the arguments are input arrays, which the launch leaves alone, and the
result array's one block is the whole array, which ends at the output.
-/
module

public import proofs.«01_k».proof.Defs
public import proofs.«01_k».proof.Proof.Launch
public import proofs.«01_k».proof.Proof.Product
public import proofs.«01_k».proof.Proof.Clip
public import proofs.«01_k».proof.Proof.Gen.Pre_moderate_ClippedIdeal
public import proofs.«01_k».proof.Proof.Gen.Kernel

@[expose] public section

noncomputable section

namespace Cert.Ring

open Cert.KernelIdeal Cert.KernelIdeal.Gen
open Idealize.ShloMosaic Idealize.ShloMosaic.TcCoe Idealize.ShloMosaic.Tactic
open Idealize.SL Idealize.SL.Sem

section Final

variable {F : FTy → Type} [FloatOps F] (m : (ℓ : Loc nD τ sig) → Buf (Elt F) ℓ)

/-- The staged block of `x` is the device's whole argument. -/
theorem xIn_eq (c : Dev nD) : xIn m c = m ((c.tc : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- So is the staged block of the weights. -/
theorem wIn_eq (c : Dev nD) : wIn m c = m ((c.tc : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

/-- The result array ends at the device's output. -/
theorem final_o (c : Dev nD) : (dats m 0 c).arrAt (2 : Fin 3) cfg0.N = outT (xIn m) (wIn m) c := by
  have h : (win0_2.blk (0 : Fin 1)).view.read (Elt F) ((dats m 0 c).arrAt (2 : Fin 3) cfg0.N) = outT (xIn m) (wIn m) c := by
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1
    (show (fun a => (win0_2.index (0 : Fin 1)) a * main_v1.ty.shape.size a) = fun _ => 0 from funext fun a => by fin_cases a <;> decide)
    (fun a => by fin_cases a <;> decide) _).symm.trans h

end Final

/-- The two printed programs have one text: their body tables differ only in how the one label is matched. -/
theorem bodies_eq : Cert.Kernel.defs₀ (F := Bits) = Cert.KernelIdeal.defs₀ (F := Bits) := by
  refine congrArg Defs.onTc (funext fun l => ?_)
  match l with
  | 0 => rfl

theorem defs_eq : Cert.Kernel.defs (F := Bits) = Cert.KernelIdeal.defs (F := Bits) :=
  congrArg (Pipeline.defs Cert.KernelIdeal.pcfgs) bodies_eq

/-- The kernel as printed terminates, keeps its arguments and returns every counter to zero. -/
theorem frame_kernel : Cert.quiescent_Kernel := by
  intro m ρ _
  rw [defs_eq]
  exact (θ_run Cert.KernelIdeal.defs _ _).mono
    (fun _ h => ⟨fun c => ⟨(h.1 c (0 : Fin 3)).trans (final_x m c), (h.1 c (1 : Fin 3)).trans (final_w m c)⟩, h.2⟩)
    (run_main (F := Bits) m ρ)

/-- So does the kernel over the extended reals. -/
theorem frame_ideal : Cert.quiescent_KernelIdeal :=
  fun m ρ _ => (θ_run Cert.KernelIdeal.defs _ _).mono
    (fun _ h => ⟨fun c => ⟨(h.1 c (0 : Fin 3)).trans (final_x m c), (h.1 c (1 : Fin 3)).trans (final_w m c)⟩, h.2⟩)
    (run_main (F := Ideal) m ρ)

/-- And the reference, which has no semaphore. -/
theorem frame_reference : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So does the reference with the clip. -/
theorem frame_clipped : Cert.quiescent_ClippedIdeal :=
  fun m ρ _ => (θ_run Cert.ClippedIdeal.defs _ _).mono
    (fun r h => ⟨fun c => (h c).2, Idealize.ShloMosaic.sem_eq_zero_of_no_sems (by decide) r.2⟩)
    (Cert.ClippedIdeal.Value.run (F := Ideal) m ρ)

/-- The array type of the whole arguments. -/
abbrev Whole : Type := (Cert.ReferenceIdeal.main_arg0 : Ref Cert.ReferenceIdeal.sig .tc).ty.Contents (Elt Ideal)

/-- Where the devices' arguments are the blocks of `x` and `w`, the kernel ends with the blocks of the reference's result. -/
theorem run_value (m : (ℓ : Loc nD τ sig) → Buf (Elt Ideal) ℓ) (ρ : Dev nD → PrngReg) (x w : Whole)
    (hx : ∀ c : Dev nD, m ((c.tc : Thread nD τ).loc main_arg0) = Layout.block ⟨2, ![256, 1024]⟩ ⟨2, ![1024, 1024]⟩ 0 4 c x)
    (hw : ∀ c : Dev nD, m ((c.tc : Thread nD τ).loc main_arg1) = Layout.block ⟨2, ![1024, 256]⟩ ⟨2, ![1024, 1024]⟩ 1 4 c w) :
    θ_run (defs (F := Ideal)) (onTc (τ := τ) (main (F := Ideal))) ⟨m, fun _ => 0, ρ⟩ fun r => ∀ c : Dev nD,
      r.2.mem ((c.tc : Thread nD τ).loc main_v1) = Layout.block ⟨2, ![1024, 256]⟩ ⟨2, ![1024, 1024]⟩ 1 4 c (refOut x w)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono
    (fun _ h c => ⟨((h.1 c (2 : Fin 3)).trans (final_o m c)).trans ?_, (h.1 c (0 : Fin 3)).trans (final_x m c),
      (h.1 c (1 : Fin 3)).trans (final_w m c)⟩)
    (run_main (F := Ideal) m ρ)
  rw [show xIn m = fun c => Layout.block ⟨2, ![256, 1024]⟩ ⟨2, ![1024, 1024]⟩ 0 4 c x from funext fun c => (xIn_eq m c).trans (hx c),
    show wIn m = fun c => Layout.block ⟨2, ![1024, 256]⟩ ⟨2, ![1024, 1024]⟩ 1 4 c w from funext fun c => (wIn_eq m c).trans (hw c)]
  exact outT_eq x w c

/-- The result, cut into the devices' blocks of columns, is the reference's. -/
theorem value : Cert.algebraic_KernelIdeal_ReferenceIdeal := fun m ρ m' ρ' _ hagree =>
  ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    run_value m ρ _ _ (fun c => (hagree c).1) (fun c => (hagree c).2),
    (θ_run Cert.ReferenceIdeal.defs _ _).mono (fun _ h => ⟨(h 0).1.trans (ref_eq _ _), (h 0).2.1, (h 0).2.2⟩)
      (Cert.ReferenceIdeal.Value.run (F := Ideal) m' ρ')⟩

/-- Under the precondition the result is also that of the reference with the clip. -/
theorem value_clipped : Cert.algebraic_KernelIdeal_ClippedIdeal_pre_moderate_KernelIdeal := by
  intro m ρ m' ρ' hpre hagree
  refine ⟨refOut (m' (((0 : Dev Cert.ClippedIdeal.nD).tc : Thread _ Cert.ClippedIdeal.τ).loc Cert.ClippedIdeal.main_arg0))
      (m' (((0 : Dev Cert.ClippedIdeal.nD).tc : Thread _ Cert.ClippedIdeal.τ).loc Cert.ClippedIdeal.main_arg1)),
    run_value m ρ _ _ (fun c => (hagree c).1) (fun c => (hagree c).2), ?_⟩
  have hx := whole_rows (m' (((0 : Dev Cert.ClippedIdeal.nD).tc : Thread _ Cert.ClippedIdeal.τ).loc Cert.ClippedIdeal.main_arg0))
    fun c a => by
      have h := rows_bounded _ _ (hpre c).1 a
      rw [(hagree c).1] at h
      exact h
  have hw := whole_columns (m' (((0 : Dev Cert.ClippedIdeal.nD).tc : Thread _ Cert.ClippedIdeal.τ).loc Cert.ClippedIdeal.main_arg1))
    fun c n => by
      have h := columns_bounded _ _ (hpre c).2 n
      rw [(hagree c).2] at h
      exact h
  exact (θ_run Cert.ClippedIdeal.defs _ _).mono (fun _ h => ⟨(h 0).1.trans (clip_eq _ _ hx hw), (h 0).2.1, (h 0).2.2⟩)
    (Cert.ClippedIdeal.Value.run (F := Ideal) m' ρ')

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_moderate_KernelIdeal
public import proofs.«01_k».proof.Proof.Gen.Pre_moderate_ClippedIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ClippedIdeal.Gen.facts,
  Cert.Pre_moderate_KernelIdeal.Gen.facts, Cert.Pre_moderate_ClippedIdeal.Gen.facts,
  Cert.Ring.frame_kernel, Cert.Ring.frame_ideal, fun m ρ _ => Cert.Ring.frame_ideal m ρ trivial, Cert.Ring.frame_reference,
  Cert.Ring.frame_clipped, fun m ρ _ => Cert.Ring.frame_clipped m ρ trivial, trivial, Cert.Ring.value, Cert.Ring.value_clipped⟩

end Cert.Proof

end
